-- ==== Defs.lean ====
def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_in_range : Cert.Pre_in_range.Facts),
    quiescent_KernelIdeal (hKernelIdeal := hKernelIdeal) (hPre_in_range := hPre_in_range)
    ∧ quiescent_ReferenceIdeal (hReferenceIdeal := hReferenceIdeal) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S5000x7 : Shape := ⟨2, ![5000, 7]⟩
abbrev S5000 : Shape := ⟨1, ![5000]⟩
abbrev S_ : Shape := ⟨0, ![]⟩
abbrev S5000x3 : Shape := ⟨2, ![5000, 3]⟩

class Facts : Prop where
  bcast_S_S5000x7 : S_.BroadcastsInDim S5000x7 (![] : Fin 0 → Fin S5000x7.rank)
  slices_S5000x7_S5000x3_0_3 : S5000x7.Slices ![0, 3] S5000x3
  bcast_S_S5000x3 : S_.BroadcastsInDim S5000x3 (![] : Fin 0 → Fin S5000x3.rank)
  bcast_S_S5000 : S_.BroadcastsInDim S5000 (![] : Fin 0 → Fin S5000.rank)

variable [Facts]

def fn {F : FTy → Type} [FloatOps F] (main_arg0 : FVec F S5000x7 .f32) (main_arg1 : FVec F S5000 .f32) : IVec S5000x7 1 × IVec S5000x3 1 × IVec S5000 1 :=
  let main_v0 : FVec F S5000x7 .f32 := Host.absf main_arg0
  let main_cst : FVec F S_ .f32 := constant S_ .f32 0x7F800000#32
  let main_v1 : FVec F S5000x7 .f32 := broadcastInDim S5000x7 ![] bcast_S_S5000x7 main_cst
  let main_v2 : IVec S5000x7 1 := cmpf .olt main_v0 main_v1
  let main_v3 : FVec F S5000x3 .f32 := (extractStridedSlice S5000x3 ![0, 3] · slices_S5000x7_S5000x3_0_3) main_arg0
  let main_cst_0 : FVec F S_ .f32 := constant S_ .f32 0x3C23D70A#32
  let main_v4 : FVec F S5000x3 .f32 := broadcastInDim S5000x3 ![] bcast_S_S5000x3 main_cst_0
  let main_v5 : IVec S5000x3 1 := cmpf .oge main_v3 main_v4
  let main_cst_1 : FVec F S_ .f32 := constant S_ .f32 0x00000000#32
  let main_v6 : FVec F S5000 .f32 := broadcastInDim S5000 ![] bcast_S_S5000 main_cst_1
  let main_v7 : IVec S5000 1 := cmpf .oge main_arg1 main_v6
  (main_v2, main_v5, main_v7)
-- ==== KernelIdeal.lean ====
abbrev S5000x7 : Shape := ⟨2, ![5000, 7]⟩
abbrev S5000 : Shape := ⟨1, ![5000]⟩
abbrev S5000x1 : Shape := ⟨2, ![5000, 1]⟩
abbrev S_ : Shape := ⟨0, ![]⟩
abbrev S5120 : Shape := ⟨1, ![5120]⟩
abbrev S8x640 : Shape := ⟨2, ![8, 640]⟩
abbrev S1x5120 : Shape := ⟨2, ![1, 5120]⟩
abbrev S5000x8 : Shape := ⟨2, ![5000, 8]⟩
abbrev S5120x8 : Shape := ⟨2, ![5120, 8]⟩
abbrev S5120x16 : Shape := ⟨2, ![5120, 16]⟩
abbrev S5000x6 : Shape := ⟨2, ![5000, 6]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1x640 : Shape := ⟨2, ![1, 640]⟩
abbrev S128x16 : Shape := ⟨2, ![128, 16]⟩
abbrev S128x1 : Shape := ⟨2, ![128, 1]⟩
abbrev S128x5120 : Shape := ⟨2, ![128, 5120]⟩
abbrev S128x8 : Shape := ⟨2, ![128, 8]⟩
abbrev S128 : Shape := ⟨1, ![128]⟩

abbrev nBuf : Space → Nat
  | .hbm => 90
  | .vmem => 13
  | .smem => 0
  | _ => 0

abbrev bufTy : (tb : Table) → Fin (tcTables nBuf tb) → BufTy
  | .hbm, ⟨0, _⟩ => ⟨S5000x7, .f32⟩
  | .hbm, ⟨1, _⟩ => ⟨S5000, .f32⟩
  | .hbm, ⟨2, _⟩ => ⟨S5000x1, .f32⟩
  | .hbm, ⟨3, _⟩ => ⟨S5000, .f32⟩
  | .hbm, ⟨4, _⟩ => ⟨S_, .i32⟩
  | .hbm, ⟨5, _⟩ => ⟨S_, .f32⟩
  | .hbm, ⟨6, _⟩ => ⟨S5120, .f32⟩
  | .hbm, ⟨7, _⟩ => ⟨S8x640, .f32⟩
  | .hbm, ⟨8, _⟩ => ⟨S5000x1, .f32⟩
  | .hbm, ⟨9, _⟩ => ⟨S5000, .f32⟩
  | .hbm, ⟨10, _⟩ => ⟨S_, .i32⟩
  | .hbm, ⟨11, _⟩ => ⟨S_, .f32⟩
  | .hbm, ⟨12, _⟩ => ⟨S5120, .f32⟩
  | .hbm, ⟨13, _⟩ => ⟨S8x640, .f32⟩
  | .hbm, ⟨14, _⟩ => ⟨S5000x1, .f32⟩
  | .hbm, ⟨15, _⟩ => ⟨S5000, .f32⟩
  | .hbm, ⟨16, _⟩ => ⟨S_, .i32⟩
  | .hbm, ⟨17, _⟩ => ⟨S_, .f32⟩
  | .hbm, ⟨18, _⟩ => ⟨S5120, .f32⟩
  | .hbm, ⟨19, _⟩ => ⟨S8x640, .f32⟩
  | .hbm, ⟨20, _⟩ => ⟨S5000x1, .f32⟩
  | .hbm, ⟨21, _⟩ => ⟨S5000, .f32⟩
  | .hbm, ⟨22, _⟩ => ⟨S_, .i32⟩
  | .hbm, ⟨23, _⟩ => ⟨S_, .f32⟩
  | .hbm, ⟨24, _⟩ => ⟨S5120, .f32⟩
  | .hbm, ⟨25, _⟩ => ⟨S8x640, .f32⟩
  | .hbm, ⟨26, _⟩ => ⟨S5000x1, .f32⟩
  | .hbm, ⟨27, _⟩ => ⟨S5000, .f32⟩
  | .hbm, ⟨28, _⟩ => ⟨S_, .i32⟩
  | .hbm, ⟨29, _⟩ => ⟨S_, .f32⟩
  | .hbm, ⟨30, _⟩ => ⟨S5120, .f32⟩
  | .hbm, ⟨31, _⟩ => ⟨S8x640, .f32⟩
  | .hbm, ⟨32, _⟩ => ⟨S5000x1, .f32⟩
  | .hbm, ⟨33, _⟩ => ⟨S5000, .f32⟩
  | .hbm, ⟨34, _⟩ => ⟨S_, .i32⟩
  | .hbm, ⟨35, _⟩ => ⟨S_, .f32⟩
  | .hbm, ⟨36, _⟩ => ⟨S5120, .f32⟩
  | .hbm, ⟨37, _⟩ => ⟨S8x640, .f32⟩
  | .hbm, ⟨38, _⟩ => ⟨S5000x1, .f32⟩
  | .hbm, ⟨39, _⟩ => ⟨S5000, .f32⟩
  | .hbm, ⟨40, _⟩ => ⟨S_, .i32⟩
  | .hbm, ⟨41, _⟩ => ⟨S_, .f32⟩
  | .hbm, ⟨42, _⟩ => ⟨S5120, .f32⟩
  | .hbm, ⟨43, _⟩ => ⟨S8x640, .f32⟩
  | .hbm, ⟨44, _⟩ => ⟨S_, .i32⟩
  | .hbm, ⟨45, _⟩ => ⟨S_, .f32⟩
  | .hbm, ⟨46, _⟩ => ⟨S5120, .f32⟩
  | .hbm, ⟨47, _⟩ => ⟨S8x640, .f32⟩
  | .hbm, ⟨48, _⟩ => ⟨S5000x1, .f32⟩
  | .hbm, ⟨49, _⟩ => ⟨S5000, .f32⟩
  | .hbm, ⟨50, _⟩ => ⟨S_, .i32⟩
  | .hbm, ⟨51, _⟩ => ⟨S_, .f32⟩
  | .hbm, ⟨52, _⟩ => ⟨S5120, .f32⟩
  | .hbm, ⟨53, _⟩ => ⟨S1x5120, .f32⟩
  | .hbm, ⟨54, _⟩ => ⟨S_, .i32⟩
  | .hbm, ⟨55, _⟩ => ⟨S_, .f32⟩
  | .hbm, ⟨56, _⟩ => ⟨S5120, .f32⟩
  | .hbm, ⟨57, _⟩ => ⟨S1x5120, .f32⟩
  | .hbm, ⟨58, _⟩ => ⟨S_, .f32⟩
  | .hbm, ⟨59, _⟩ => ⟨S5000, .f32⟩
  | .hbm, ⟨60, _⟩ => ⟨S5000x1, .f32⟩
  | .hbm, ⟨61, _⟩ => ⟨S5000, .f32⟩
  | .hbm, ⟨62, _⟩ => ⟨S5000x1, .f32⟩
  | .hbm, ⟨63, _⟩ => ⟨S5000, .f32⟩
  | .hbm, ⟨64, _⟩ => ⟨S5000x1, .f32⟩
  | .hbm, ⟨65, _⟩ => ⟨S5000, .f32⟩
  | .hbm, ⟨66, _⟩ => ⟨S5000x1, .f32⟩
  | .hbm, ⟨67, _⟩ => ⟨S5000, .f32⟩
  | .hbm, ⟨68, _⟩ => ⟨S5000x1, .f32⟩
  | .hbm, ⟨69, _⟩ => ⟨S5000, .f32⟩
  | .hbm, ⟨70, _⟩ => ⟨S5000x1, .f32⟩
  | .hbm, ⟨71, _⟩ => ⟨S5000, .f32⟩
  | .hbm, ⟨72, _⟩ => ⟨S5000x1, .f32⟩
  | .hbm, ⟨73, _⟩ => ⟨S5000x1, .f32⟩
  | .hbm, ⟨74, _⟩ => ⟨S5000x1, .f32⟩
  | .hbm, ⟨75, _⟩ => ⟨S5000x1, .f32⟩
  | .hbm, ⟨76, _⟩ => ⟨S5000x1, .f32⟩
  | .hbm, ⟨77, _⟩ => ⟨S5000x1, .f32⟩
  | .hbm, ⟨78, _⟩ => ⟨S5000x1, .f32⟩
  | .hbm, ⟨79, _⟩ => ⟨S5000x1, .f32⟩
  | .hbm, ⟨80, _⟩ => ⟨S5000x8, .f32⟩
  | .hbm, ⟨81, _⟩ => ⟨S_, .i32⟩
  | .hbm, ⟨82, _⟩ => ⟨S_, .f32⟩
  | .hbm, ⟨83, _⟩ => ⟨S5120x8, .f32⟩
  | .hbm, ⟨84, _⟩ => ⟨S5120x16, .f32⟩
  | .hbm, ⟨85, _⟩ => ⟨S5000x6, .f32⟩
  | .hbm, ⟨86, _⟩ => ⟨S5000x1, .f32⟩
  | .hbm, ⟨87, _⟩ => ⟨S5000, .f32⟩
  | .hbm, ⟨88, _⟩ => ⟨S5000x1, .f32⟩
  | .hbm, ⟨89, _⟩ => ⟨S5000, .f32⟩
  | .local _ .vmem, ⟨0, _⟩ => ⟨S8x640, .f32⟩
  | .local _ .vmem, ⟨1, _⟩ => ⟨S8x640, .f32⟩
  | .local _ .vmem, ⟨2, _⟩ => ⟨S8x640, .f32⟩
  | .local _ .vmem, ⟨3, _⟩ => ⟨S8x640, .f32⟩
  | .local _ .vmem, ⟨4, _⟩ => ⟨S8x640, .f32⟩
  | .local _ .vmem, ⟨5, _⟩ => ⟨S8x640, .f32⟩
  | .local _ .vmem, ⟨6, _⟩ => ⟨S8x640, .f32⟩
  | .local _ .vmem, ⟨7, _⟩ => ⟨S8x640, .f32⟩
  | .local _ .vmem, ⟨8, _⟩ => ⟨S1x5120, .f32⟩
  | .local _ .vmem, ⟨9, _⟩ => ⟨S1x5120, .f32⟩
  | .local _ .vmem, ⟨10, _⟩ => ⟨S5120x8, .f32⟩
  | .local _ .vmem, ⟨11, _⟩ => ⟨S5120x16, .f32⟩
  | .local _ .vmem, ⟨12, _⟩ => ⟨S1x5120, .i32⟩
  | _, _ => ⟨S5000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_call0_v0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_c_1 : Ref sig .tc := ⟨.hbm, 16, rfl⟩
abbrev main_call0_call2_v0 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_c_2 : Ref sig .tc := ⟨.hbm, 22, rfl⟩
abbrev main_call0_call3_v0 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_c_3 : Ref sig .tc := ⟨.hbm, 28, rfl⟩
abbrev main_call0_call4_v0 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_c_4 : Ref sig .tc := ⟨.hbm, 34, rfl⟩
abbrev main_call0_call5_v0 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_c_5 : Ref sig .tc := ⟨.hbm, 40, rfl⟩
abbrev main_call0_call6_v0 : Ref sig .tc := ⟨.hbm, 41, rfl⟩
abbrev main_call0_v26 : Ref sig .tc := ⟨.hbm, 42, rfl⟩
abbrev main_call0_v27 : Ref sig .tc := ⟨.hbm, 43, rfl⟩
abbrev main_call0_c_6 : Ref sig .tc := ⟨.hbm, 44, rfl⟩
abbrev main_call0_call7_v0 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_c_7 : Ref sig .tc := ⟨.hbm, 50, rfl⟩
abbrev main_call0_call8_v0 : Ref sig .tc := ⟨.hbm, 51, rfl⟩
abbrev main_call0_v32 : Ref sig .tc := ⟨.hbm, 52, rfl⟩
abbrev main_call0_v33 : Ref sig .tc := ⟨.hbm, 53, rfl⟩
abbrev main_call0_c_8 : Ref sig .tc := ⟨.hbm, 54, rfl⟩
abbrev main_call0_call9_v0 : Ref sig .tc := ⟨.hbm, 55, rfl⟩
abbrev main_call0_v34 : Ref sig .tc := ⟨.hbm, 56, rfl⟩
abbrev main_call0_v35 : Ref sig .tc := ⟨.hbm, 57, rfl⟩
abbrev main_call0_cst : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52 : Ref sig .tc := ⟨.hbm, 75, rfl⟩
abbrev main_call0_v53 : Ref sig .tc := ⟨.hbm, 76, rfl⟩
abbrev main_call0_v54 : Ref sig .tc := ⟨.hbm, 77, rfl⟩
abbrev main_call0_v55 : Ref sig .tc := ⟨.hbm, 78, rfl⟩
abbrev main_call0_v56 : Ref sig .tc := ⟨.hbm, 79, rfl⟩
abbrev main_call0_v57 : Ref sig .tc := ⟨.hbm, 80, rfl⟩
abbrev main_call0_c_9 : Ref sig .tc := ⟨.hbm, 81, rfl⟩
abbrev main_call0_call10_v0 : Ref sig .tc := ⟨.hbm, 82, rfl⟩
abbrev main_call0_v58 : Ref sig .tc := ⟨.hbm, 83, rfl⟩
abbrev main_call0_v59 : Ref sig .tc := ⟨.hbm, 84, rfl⟩
abbrev main_v0_0 : Ref sig .tc := ⟨.hbm, 85, rfl⟩
abbrev main_call0_v61 : Ref sig .tc := ⟨.hbm, 86, rfl⟩
abbrev main_v0_1 : Ref sig .tc := ⟨.hbm, 87, rfl⟩
abbrev main_call0_v63 : Ref sig .tc := ⟨.hbm, 88, rfl⟩
abbrev main_v0_2 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

def k0_off1 (arg13 : BitVec 32) : Fin 2 → Nat :=
  let c128_i32 : BitVec 32 := 128#32
  let v128 : BitVec 32 := Scalar.muli arg13 c128_i32
  let v271 : Index := Scalar.indexCast v128
  let c0_75 : Index := 0#32
  ![v271.toNat, 0]

def k0_chk1 (arg13 : BitVec 32) : Prop :=
  (∀ a, (k0_off1 arg13) a + S128x16.size a ≤ S5120x16.size a)
theorem k0_off1_inb : ∀ (arg13 : BitVec 32) (k0_hw1 : k0_chk1 arg13), ∀ a, (k0_off1 arg13) a + S128x16.size a ≤ S5120x16.size a := fun arg13 k0_hw1 => k0_hw1

abbrev stage0_0 : Fin 1 → Memref sig .tc .vmem S8x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5120x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S5000x7 : Shape := ⟨2, ![5000, 7]⟩
abbrev S5000 : Shape := ⟨1, ![5000]⟩
abbrev S5000x1 : Shape := ⟨2, ![5000, 1]⟩
abbrev S_ : Shape := ⟨0, ![]⟩
abbrev S1 : Shape := ⟨1, ![1]⟩
abbrev S1x5000 : Shape := ⟨2, ![1, 5000]⟩
abbrev S5000x5000 : Shape := ⟨2, ![5000, 5000]⟩
abbrev S5000x6 : Shape := ⟨2, ![5000, 6]⟩

abbrev nBuf : Space → Nat
  | .hbm => 225
  | .vmem => 0
  | .smem => 0
  | _ => 0

abbrev hbmTy0_0 (i : Nat) : BufTy := match i % 128 with
  | 0 => ⟨S5000x7, .f32⟩
  | 1 => ⟨S5000, .f32⟩
  | 2 => ⟨S5000x1, .f32⟩
  | 3 => ⟨S5000, .f32⟩
  | 4 => ⟨S_, .f32⟩
  | 5 => ⟨S5000, .f32⟩
  | 6 => ⟨S5000, .f32⟩
  | 7 => ⟨S_, .f32⟩
  | 8 => ⟨S5000, .f32⟩
  | 9 => ⟨S5000, .f32⟩
  | 10 => ⟨S5000, .f32⟩
  | 11 => ⟨S_, .f32⟩
  | 12 => ⟨S5000, .f32⟩
  | 13 => ⟨S5000, .f32⟩
  | 14 => ⟨S5000, .f32⟩
  | 15 => ⟨S_, .i32⟩
  | 16 => ⟨S1, .i32⟩
  | 17 => ⟨S5000x7, .f32⟩
  | 18 => ⟨S5000x1, .f32⟩
  | 19 => ⟨S5000, .f32⟩
  | 20 => ⟨S5000x1, .f32⟩
  | 21 => ⟨S5000, .f32⟩
  | 22 => ⟨S5000x1, .f32⟩
  | 23 => ⟨S5000, .f32⟩
  | 24 => ⟨S5000x1, .f32⟩
  | 25 => ⟨S5000, .f32⟩
  | 26 => ⟨S5000x1, .f32⟩
  | 27 => ⟨S5000, .f32⟩
  | 28 => ⟨S5000x1, .f32⟩
  | 29 => ⟨S5000, .f32⟩
  | 30 => ⟨S5000x1, .f32⟩
  | 31 => ⟨S5000, .f32⟩
  | 32 => ⟨S5000, .f32⟩
  | 33 => ⟨S5000, .f32⟩
  | 34 => ⟨S5000, .f32⟩
  | 35 => ⟨S5000, .f32⟩
  | 36 => ⟨S5000, .f32⟩
  | 37 => ⟨S5000, .f32⟩
  | 38 => ⟨S5000, .f32⟩
  | 39 => ⟨S_, .f32⟩
  | 40 => ⟨S5000, .f32⟩
  | 41 => ⟨S5000, .f32⟩
  | 42 => ⟨S5000, .f32⟩
  | 43 => ⟨S5000, .f32⟩
  | 44 => ⟨S5000, .f32⟩
  | 45 => ⟨S_, .f32⟩
  | 46 => ⟨S5000, .f32⟩
  | 47 => ⟨S5000, .f32⟩
  | 48 => ⟨S5000, .f32⟩
  | 49 => ⟨S5000, .f32⟩
  | 50 => ⟨S5000, .f32⟩
  | 51 => ⟨S5000, .f32⟩
  | 52 => ⟨S_, .f32⟩
  | 53 => ⟨S5000, .f32⟩
  | 54 => ⟨S5000, .f32⟩
  | 55 => ⟨S5000, .f32⟩
  | 56 => ⟨S_, .f32⟩
  | 57 => ⟨S5000, .f32⟩
  | 58 => ⟨S5000, .f32⟩
  | 59 => ⟨S5000, .f32⟩
  | 60 => ⟨S5000x1, .f32⟩
  | 61 => ⟨S1x5000, .f32⟩
  | 62 => ⟨S5000x5000, .f32⟩
  | 63 => ⟨S5000x5000, .f32⟩
  | 64 => ⟨S5000x5000, .f32⟩
  | 65 => ⟨S5000x1, .f32⟩
  | 66 => ⟨S1x5000, .f32⟩
  | 67 => ⟨S5000x5000, .f32⟩
  | 68 => ⟨S5000x5000, .f32⟩
  | 69 => ⟨S5000x5000, .f32⟩
  | 70 => ⟨S5000x5000, .f32⟩
  | 71 => ⟨S_, .f32⟩
  | 72 => ⟨S5000x5000, .f32⟩
  | 73 => ⟨S5000x5000, .f32⟩
  | 74 => ⟨S5000x1, .f32⟩
  | 75 => ⟨S1x5000, .f32⟩
  | 76 => ⟨S5000x5000, .f32⟩
  | 77 => ⟨S5000x5000, .f32⟩
  | 78 => ⟨S5000x5000, .f32⟩
  | 79 => ⟨S5000x1, .f32⟩
  | 80 => ⟨S1x5000, .f32⟩
  | 81 => ⟨S5000x5000, .f32⟩
  | 82 => ⟨S5000x5000, .f32⟩
  | 83 => ⟨S5000x5000, .f32⟩
  | 84 => ⟨S5000x5000, .f32⟩
  | 85 => ⟨S_, .f32⟩
  | 86 => ⟨S5000x5000, .f32⟩
  | 87 => ⟨S5000x5000, .f32⟩
  | 88 => ⟨S5000x1, .f32⟩
  | 89 => ⟨S1x5000, .f32⟩
  | 90 => ⟨S5000x5000, .f32⟩
  | 91 => ⟨S5000x5000, .f32⟩
  | 92 => ⟨S5000x5000, .f32⟩
  | 93 => ⟨S5000x1, .f32⟩
  | 94 => ⟨S1x5000, .f32⟩
  | 95 => ⟨S5000x5000, .f32⟩
  | 96 => ⟨S5000x5000, .f32⟩
  | 97 => ⟨S5000x5000, .f32⟩
  | 98 => ⟨S5000x5000, .f32⟩
  | 99 => ⟨S_, .f32⟩
  | 100 => ⟨S5000x5000, .f32⟩
  | 101 => ⟨S5000x5000, .f32⟩
  | 102 => ⟨S5000x5000, .f32⟩
  | 103 => ⟨S5000x5000, .f32⟩
  | 104 => ⟨S5000, .f32⟩
  | 105 => ⟨S5000, .f32⟩
  | 106 => ⟨S5000, .f32⟩
  | 107 => ⟨S5000, .f32⟩
  | 108 => ⟨S5000, .f32⟩
  | 109 => ⟨S5000x1, .f32⟩
  | 110 => ⟨S1x5000, .f32⟩
  | 111 => ⟨S5000x5000, .f32⟩
  | 112 => ⟨S5000x5000, .f32⟩
  | 113 => ⟨S5000x5000, .f32⟩
  | 114 => ⟨S5000x5000, .f32⟩
  | 115 => ⟨S_, .f32⟩
  | 116 => ⟨S5000x5000, .f32⟩
  | 117 => ⟨S5000x5000, .f32⟩
  | 118 => ⟨S5000x5000, .f32⟩
  | 119 => ⟨S_, .f32⟩
  | 120 => ⟨S5000x5000, .f32⟩
  | 121 => ⟨S5000x5000, .i1⟩
  | 122 => ⟨S_, .i32⟩
  | 123 => ⟨S5000, .i32⟩
  | 124 => ⟨S5000, .i32⟩
  | 125 => ⟨S_, .i32⟩
  | 126 => ⟨S_, .i32⟩
  | 127 => ⟨S5000, .i32⟩
  | _ => ⟨S5000x7, .f32⟩

abbrev hbmTy0_1 (i : Nat) : BufTy := match i % 128 with
  | 0 => ⟨S5000x5000, .i1⟩
  | 1 => ⟨S_, .i32⟩
  | 2 => ⟨S5000, .i32⟩
  | 3 => ⟨S_, .i32⟩
  | 4 => ⟨S_, .i32⟩
  | 5 => ⟨S_, .i1⟩
  | 6 => ⟨S1, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i1⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x5000, .i1⟩
  | 31 => ⟨S5000, .i1⟩
  | 32 => ⟨S5000, .i1⟩
  | 33 => ⟨S5000, .i1⟩
  | 34 => ⟨S5000, .i32⟩
  | 35 => ⟨S5000, .i32⟩
  | 36 => ⟨S_, .i32⟩
  | 37 => ⟨S_, .i32⟩
  | 38 => ⟨S_, .i32⟩
  | 39 => ⟨S_, .i32⟩
  | 40 => ⟨S_, .i32⟩
  | 41 => ⟨S5000, .i32⟩
  | 42 => ⟨S5000, .i32⟩
  | 43 => ⟨S_, .f32⟩
  | 44 => ⟨S5000, .f32⟩
  | 45 => ⟨S_, .f32⟩
  | 46 => ⟨S5000, .f32⟩
  | 47 => ⟨S5000x1, .i32⟩
  | 48 => ⟨S5000, .f32⟩
  | 49 => ⟨S_, .f32⟩
  | 50 => ⟨S5000, .f32⟩
  | 51 => ⟨S5000x1, .i32⟩
  | 52 => ⟨S5000, .f32⟩
  | 53 => ⟨S_, .i32⟩
  | 54 => ⟨S5000, .i32⟩
  | 55 => ⟨S5000, .i1⟩
  | 56 => ⟨S_, .i32⟩
  | 57 => ⟨S5000, .i32⟩
  | 58 => ⟨S5000, .i32⟩
  | 59 => ⟨S5000, .i32⟩
  | 60 => ⟨S5000x1, .i32⟩
  | 61 => ⟨S5000, .f32⟩
  | 62 => ⟨S_, .f32⟩
  | 63 => ⟨S5000, .f32⟩
  | 64 => ⟨S5000, .f32⟩
  | 65 => ⟨S5000, .f32⟩
  | 66 => ⟨S5000x6, .f32⟩
  | 67 => ⟨S5000x1, .f32⟩
  | 68 => ⟨S5000x6, .f32⟩
  | 69 => ⟨S5000x6, .f32⟩
  | 70 => ⟨S_, .f32⟩
  | 71 => ⟨S5000x6, .f32⟩
  | 72 => ⟨S5000x1, .i32⟩
  | 73 => ⟨S5000x6, .f32⟩
  | 74 => ⟨S1x5000, .i32⟩
  | 75 => ⟨S5000, .i32⟩
  | 76 => ⟨S5000x1, .i32⟩
  | 77 => ⟨S5000x5000, .i32⟩
  | 78 => ⟨S5000x5000, .i32⟩
  | 79 => ⟨S5000x5000, .i1⟩
  | 80 => ⟨S_, .f32⟩
  | 81 => ⟨S5000x5000, .f32⟩
  | 82 => ⟨S1x5000, .f32⟩
  | 83 => ⟨S5000x5000, .f32⟩
  | 84 => ⟨S5000x5000, .f32⟩
  | 85 => ⟨S_, .f32⟩
  | 86 => ⟨S5000, .f32⟩
  | 87 => ⟨S_, .i1⟩
  | 88 => ⟨S5000, .i1⟩
  | 89 => ⟨S_, .f32⟩
  | 90 => ⟨S5000, .f32⟩
  | 91 => ⟨S5000, .f32⟩
  | 92 => ⟨S5000x1, .i1⟩
  | 93 => ⟨S5000x6, .i1⟩
  | 94 => ⟨S_, .f32⟩
  | 95 => ⟨S5000x6, .f32⟩
  | 96 => ⟨S5000x6, .f32⟩
  | _ => ⟨S5000x7, .f32⟩

abbrev hbmTy (i : Nat) : BufTy := match i / 128 with
  | 0 => hbmTy0_0 i
  | 1 => hbmTy0_1 i
  | _ => ⟨S5000x7, .f32⟩

abbrev bufTy : (tb : Table) → Fin (tcTables nBuf tb) → BufTy
  | .hbm, ⟨i, _⟩ => hbmTy i
  | _, _ => ⟨S5000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_7 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_8 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_cst_9 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_cst_10 : Ref sig .tc := ⟨.hbm, 119, rfl⟩
abbrev main_v105 : Ref sig .tc := ⟨.hbm, 120, rfl⟩
abbrev main_v106 : Ref sig .tc := ⟨.hbm, 121, rfl⟩
abbrev main_c_11 : Ref sig .tc := ⟨.hbm, 122, rfl⟩
abbrev main_v107 : Ref sig .tc := ⟨.hbm, 123, rfl⟩
abbrev main_v108 : Ref sig .tc := ⟨.hbm, 124, rfl⟩
abbrev main_c_12 : Ref sig .tc := ⟨.hbm, 125, rfl⟩
abbrev main_c_13 : Ref sig .tc := ⟨.hbm, 126, rfl⟩
abbrev main_v109_0 : Ref sig .tc := ⟨.hbm, 127, rfl⟩
abbrev main_v109_1 : Ref sig .tc := ⟨.hbm, 128, rfl⟩
abbrev main_v109_2 : Ref sig .tc := ⟨.hbm, 129, rfl⟩
abbrev main_v109_3 : Ref sig .tc := ⟨.hbm, 130, rfl⟩
abbrev main_v109_4 : Ref sig .tc := ⟨.hbm, 131, rfl⟩
abbrev main_while0c_c_31 : Ref sig .tc := ⟨.hbm, 132, rfl⟩
abbrev main_while0c_v154 : Ref sig .tc := ⟨.hbm, 133, rfl⟩
abbrev main_while0b_call0_v0 : Ref sig .tc := ⟨.hbm, 134, rfl⟩
abbrev main_while0b_v154 : Ref sig .tc := ⟨.hbm, 135, rfl⟩
abbrev main_while0b_c_31 : Ref sig .tc := ⟨.hbm, 136, rfl⟩
abbrev main_while0b_v155 : Ref sig .tc := ⟨.hbm, 137, rfl⟩
abbrev main_while0b_c_32 : Ref sig .tc := ⟨.hbm, 138, rfl⟩
abbrev main_while0b_v156 : Ref sig .tc := ⟨.hbm, 139, rfl⟩
abbrev main_while0b_v157 : Ref sig .tc := ⟨.hbm, 140, rfl⟩
abbrev main_while0b_v158 : Ref sig .tc := ⟨.hbm, 141, rfl⟩
abbrev main_while0b_v159 : Ref sig .tc := ⟨.hbm, 142, rfl⟩
abbrev main_while0b_c_33 : Ref sig .tc := ⟨.hbm, 143, rfl⟩
abbrev main_while0b_v160 : Ref sig .tc := ⟨.hbm, 144, rfl⟩
abbrev main_while0b_c_34 : Ref sig .tc := ⟨.hbm, 145, rfl⟩
abbrev main_while0b_v161 : Ref sig .tc := ⟨.hbm, 146, rfl⟩
abbrev main_while0b_c_35 : Ref sig .tc := ⟨.hbm, 147, rfl⟩
abbrev main_while0b_v162 : Ref sig .tc := ⟨.hbm, 148, rfl⟩
abbrev main_while0b_v163 : Ref sig .tc := ⟨.hbm, 149, rfl⟩
abbrev main_while0b_c_36 : Ref sig .tc := ⟨.hbm, 150, rfl⟩
abbrev main_while0b_c_37 : Ref sig .tc := ⟨.hbm, 151, rfl⟩
abbrev main_while0b_v164 : Ref sig .tc := ⟨.hbm, 152, rfl⟩
abbrev main_while0b_c_38 : Ref sig .tc := ⟨.hbm, 153, rfl⟩
abbrev main_while0b_c_39 : Ref sig .tc := ⟨.hbm, 154, rfl⟩
abbrev main_while0b_v165 : Ref sig .tc := ⟨.hbm, 155, rfl⟩
abbrev main_while0b_c_40 : Ref sig .tc := ⟨.hbm, 156, rfl⟩
abbrev main_while0b_v166 : Ref sig .tc := ⟨.hbm, 157, rfl⟩
abbrev main_while0b_v167 : Ref sig .tc := ⟨.hbm, 158, rfl⟩
abbrev main_while0b_v168 : Ref sig .tc := ⟨.hbm, 159, rfl⟩
abbrev main_while0b_v169 : Ref sig .tc := ⟨.hbm, 160, rfl⟩
abbrev main_while0b_v170 : Ref sig .tc := ⟨.hbm, 161, rfl⟩
abbrev main_while0b_call1_v0 : Ref sig .tc := ⟨.hbm, 162, rfl⟩
abbrev main_while0b_v171 : Ref sig .tc := ⟨.hbm, 163, rfl⟩
abbrev main_while0b_v172 : Ref sig .tc := ⟨.hbm, 164, rfl⟩
abbrev main_while0b_v173 : Ref sig .tc := ⟨.hbm, 165, rfl⟩
abbrev main_while0b_c_41 : Ref sig .tc := ⟨.hbm, 166, rfl⟩
abbrev main_while0b_v174 : Ref sig .tc := ⟨.hbm, 167, rfl⟩
abbrev main_c_14 : Ref sig .tc := ⟨.hbm, 168, rfl⟩
abbrev main_v110 : Ref sig .tc := ⟨.hbm, 169, rfl⟩
abbrev main_v111 : Ref sig .tc := ⟨.hbm, 170, rfl⟩
abbrev main_cst_15 : Ref sig .tc := ⟨.hbm, 171, rfl⟩
abbrev main_v112 : Ref sig .tc := ⟨.hbm, 172, rfl⟩
abbrev main_cst_16 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_cst_17 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c_18 : Ref sig .tc := ⟨.hbm, 181, rfl⟩
abbrev main_v119 : Ref sig .tc := ⟨.hbm, 182, rfl⟩
abbrev main_v120 : Ref sig .tc := ⟨.hbm, 183, rfl⟩
abbrev main_c_19 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_20 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_21 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_22 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_23 : Ref sig .tc := ⟨.hbm, 213, rfl⟩
abbrev main_v146 : Ref sig .tc := ⟨.hbm, 214, rfl⟩
abbrev main_c_24 : Ref sig .tc := ⟨.hbm, 215, rfl⟩
abbrev main_v147 : Ref sig .tc := ⟨.hbm, 216, rfl⟩
abbrev main_cst_25 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_26 : Ref sig .tc := ⟨.hbm, 222, rfl⟩
abbrev main_v152 : Ref sig .tc := ⟨.hbm, 223, rfl⟩
abbrev main_v153 : Ref sig .tc := ⟨.hbm, 224, rfl⟩

abbrev nD : Nat := 1
abbrev τ : Topo := Topo.v7x

variable {F : FTy → Type} [FloatOps F]

abbrev main_while0_count : Scf.Loop 32 := ⟨0#32, 5000#32, 1#32⟩
-- ==== Proof.K.Launch.lean ====
/- The launch of the kernel around its one region: the arrays as the region finds them (after the host lines that pad and
   lay out the boxes), the host lines after it, and the arguments, which nothing writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the region is entered: the launch memory after the host lines before it. -/
abbrev V0 (c : Dev nD) : Valuation τ sig (Elt F) := StableHlo.after (List.flatten [hostOps0]) (fun b => m (c, b))

/-- The same, read at a reference of the TensorCore. -/
abbrev V (c : Dev nD) (b : Ref sig .tc) : Buf (Elt F) ((c : Thread nD τ).loc b) := V0 m c (Proc.devRef .tc b)

/-- No host line before the region allocates. -/
theorem pre_fresh : (hostOps0 : List (HloOp τ sig (Elt F))).Forall fun op => op.fresh = ∅ := by
  simp only [List.Forall]; repeat' constructor
/-- No host line after it does either. -/
theorem post_fresh : (hostOps1 : List (HloOp τ sig (Elt F))).Forall fun op => op.fresh = ∅ := by
  simp only [List.Forall]; repeat' constructor

set_option maxHeartbeats 800000 in
/-- The program is the host lines before the region, the region, and the host lines after it. -/
theorem main_around (𝒱₀ : Variants) : Pipeline.HMainK (Ix := Unit) (Name := ℕ) (U := UR sig nD τ) (Lvl := ℕ) (cfgs (F := F)) 0 (defs₀ (F := F)) 𝒱₀ m (main (F := F)) (V m)
      (fun _ => Pipeline.chain ([hostOps1].map StableHlo.seq)) :=
  Pipeline.hmain_around (cfgs (F := F)) 0 (defs₀ (F := F)) 𝒱₀ m main [hostOps0] [hostOps1] (by simp only [List.Forall]; exact hostOps0_sub)
    (by simp only [List.Forall]; exact pre_fresh) main_chain

/-- The lines after the region touch only unscoped buffers. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem post_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- They write no array of the region. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The boxes are as launched when the region is entered. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The scores are as launched when the region is entered. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The boxes end as launched. -/
theorem W_arg0 (dats : (p : Fin _) → (c : Dev nD) → Dat τ (Elt F) Unit ℕ (UR sig nD τ) ℕ (cfgs (F := F) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c
/-- The scores end as launched. -/
theorem W_arg1 (dats : (p : Fin _) → (c : Dev nD) → Dat τ (Elt F) Unit ℕ (UR sig nD τ) ℕ (cfgs (F := F) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- Window `w`'s block at point `t`, read off its array as the region finds it. -/
def blockAt (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The invariant hands the body the scratch row at some contents and the generator register, and takes them back. -/
theorem inv_eq (c : Dev nD) :
    (Pipeline.ΦA spec0 c : sProp 𝕄)
      = iprop(iprop((∃ d, owns (c : Thread nD τ) (Memref.whole cc0_scratch0 : Memref sig .tc .vmem S1x5120 .i32) fullShare d)) ∗ (∃ r, prngReg c r)) := by
  unfold Pipeline.ΦA; rw [scopedRest0_eq]; simp only [owns_whole]; try rfl

end Cert.Proof.K

end
-- ==== Proof.K.Trips.lean ====
/- What the kernel's two loops compute, as plain functions of the values read: the planes of the boxes, the
   greedy clustering trip by trip, the row of cluster numbers, and the block of fused rows of each 128 clusters. -/
module

public import proofs.«01_k».proof.Proof.Gen.KernelIdeal.Skeleton
public import Idealize.ShloMosaic.Lib.PointwiseCore

@[expose] public section

noncomputable section

namespace Cert.Proof.K

open Cert.KernelIdeal Cert.KernelIdeal.Gen
open Idealize.ShloMosaic

variable {F : FTy → Type} [FloatOps F]

/-- The seven planes the clustering loop reads: the axis-aligned extents of every box and its volume. -/
structure Planes (F : FTy → Type) where
  x1 : FVec F S8x640 .f32
  x2 : FVec F S8x640 .f32
  y1 : FVec F S8x640 .f32
  y2 : FVec F S8x640 .f32
  z1 : FVec F S8x640 .f32
  z2 : FVec F S8x640 .f32
  vol : FVec F S8x640 .f32

/-- The planes from the seven columns of the boxes. -/
def planes (a0 a1 a2 a3 a4 a5 a6 : FVec F S8x640 .f32) : Planes F where
  x1 := k0_pay24 k0_pay9 (k0_pay10 a0) (k0_pay19 a3 a4 a6)
  x2 := k0_pay25 k0_pay9 (k0_pay10 a0) (k0_pay19 a3 a4 a6)
  y1 := k0_pay26 (k0_pay11 a1) (k0_pay20 a3 a6) (k0_pay21 a4 a6)
  y2 := k0_pay27 (k0_pay11 a1) (k0_pay20 a3 a6) (k0_pay21 a4 a6)
  z1 := k0_pay28 (k0_pay12 a2) (k0_pay15 a5)
  z2 := k0_pay29 (k0_pay12 a2) (k0_pay15 a5)
  vol := k0_pay30 k0_pay9 (k0_pay10 a0) (k0_pay11 a1) (k0_pay12 a2) (k0_pay15 a5) (k0_pay19 a3 a4 a6) (k0_pay20 a3 a6) (k0_pay21 a4 a6)

/-- The clustering loop's state: the plane of assignments, the number of clusters, the next box to take. -/
abbrev CState := IVec S8x640 32 × BitVec 32 × IVec S1x1 32

/-- The state the loop starts from. -/
def cInit : CState := (k0_pay31 k0_pay8 k0_pay9, 0#32, k0_pay32 k0_pay8 k0_pay9)

/-- The loop's test: a box is left. -/
abbrev cMore (s : CState) : Prop := Scalar.cmpi .slt (extractAt ![0, 0] s.2.2 inpos_S1x1_p0_0) 5000#32 = 1#1

/-- The plane of assignments after one trip. -/
def cPlane (P : Planes F) (s : CState) : IVec S8x640 32 :=
  k0_pay6 P.x1 P.x2 P.y1 P.y2 P.z1 P.z2 P.vol s.1 s.2.1 (k0_pay48 P.x1 s.1 s.2.2) (k0_pay49 P.x2 s.1 s.2.2) (k0_pay50 P.y1 s.1 s.2.2) (k0_pay51 P.y2 s.1 s.2.2)
    (k0_pay52 P.z1 s.1 s.2.2) (k0_pay53 P.z2 s.1 s.2.2) (k0_pay54 P.x1 P.x2 P.y1 P.y2 s.1 s.2.2) (k0_pay55 P.z1 P.z2 s.1 s.2.2)

/-- The next box after one trip. -/
def cNext (P : Planes F) (s : CState) : IVec S1x1 32 :=
  k0_pay7 P.x1 P.x2 P.y1 P.y2 P.z1 P.z2 P.vol s.1 s.2.1 (k0_pay48 P.x1 s.1 s.2.2) (k0_pay49 P.x2 s.1 s.2.2) (k0_pay50 P.y1 s.1 s.2.2) (k0_pay51 P.y2 s.1 s.2.2)
    (k0_pay52 P.z1 s.1 s.2.2) (k0_pay53 P.z2 s.1 s.2.2) (k0_pay54 P.x1 P.x2 P.y1 P.y2 s.1 s.2.2) (k0_pay55 P.z1 P.z2 s.1 s.2.2)

/-- One trip of the clustering loop. -/
def cStep (P : Planes F) (s : CState) : CState := (cPlane P s, Scalar.addi s.2.1 1#32, cNext P s)

/-- At most `n` trips of the clustering loop. -/
def cRun (P : Planes F) : ℕ → CState → CState
  | 0, s => s
  | n + 1, s => if cMore s then cRun P n (cStep P s) else s

/-- The row of cluster numbers: the plane of assignments, less 5120, row after row. -/
def segRow (a : IVec S8x640 32) : IVec S1x5120 32 := fun y =>
  k0_pay33 a (ix2 (n0 := 8) (n1 := 640) ⟨(y 1).val / 640, by have h : (y 1).val < 5120 := (y 1).isLt; omega⟩ ⟨(y 1).val % 640, Nat.mod_lt _ (by decide)⟩)

/-- What the second loop reads: the number of clusters, the cluster numbers, the validity of a row, the scores, the
    weighted columns, the positions, and the angle with its sine and cosine. -/
structure Rows (F : FTy → Type) where
  nseg : BitVec 32
  seg : IVec S1x5120 32
  sc : FVec F S1x5120 .f32
  w : FVec F S5120x8 .f32
  r : FVec F S1x5120 .f32
  sin : FVec F S1x5120 .f32
  cos : FVec F S1x5120 .f32

/-- The block of 128 fused rows of clusters `128 * cb`, …. -/
def block (R : Rows F) (cb : BitVec 32) : FVec F S128x16 .f32 :=
  let v123 := R.w
  let v104 := R.seg
  let v107 : IVec S1x5120 1 := k0_pay43
  let v111 := R.sc
  let v105 : IVec S1x5120 32 := iota .tc S1x5120 32 [1] iota_S1x5120_d1_w32
  let v124 : IVec S128x16 32 := iota .tc S128x16 32 [1] iota_S128x16_d1_w32
  let v146 := k0_pay60 v104 v107 v123 cb
  let v147 := k0_pay61 v104 v107 v111 v123 cb
  k0_pay75 v124 (k0_pay59 v104 v107 v123 cb) (k0_pay62 v104 v107 v111 cb)
    (k0_pay65 R.sin R.cos (k0_pay57 v104 v107 v111 cb) (k0_pay63 v104 v107 v111 v105 R.r cb) (k0_pay64 v104 v107 v111 v105 R.r cb))
    (k0_pay67 v146 v147) (k0_pay68 v146 v147) (k0_pay69 v146 v147) (k0_pay70 v146 v147) (k0_pay71 v146 v147) (k0_pay72 v146 v147)
    (k0_pay73 (F := F)) (k0_pay74 v124)

/-- The output after the first `j` blocks: those blocks' rows, and zero below. -/
def outAfter (R : Rows F) (j : ℕ) : FVec F S5120x16 .f32 := fun y =>
  if (y 0).val < 128 * j then
    block R (BitVec.ofNat 32 ((y 0).val / 128)) (ix2 (n0 := 128) (n1 := 16) ⟨(y 0).val % 128, Nat.mod_lt _ (by decide)⟩ ⟨(y 1).val, (y 1).isLt⟩)
  else k0_pay5 y

/-- The number of blocks written. -/
def blocks (R : Rows F) : ℕ := (R.nseg.toNat + 127) / 128

/-- The second loop's reading of the inputs, from the clustering's final state. -/
def rowsOf (s : CState) (a8 a9 : FVec F S1x5120 .f32) (a10 : FVec F S5120x8 .f32) : Rows F where
  nseg := s.2.1
  seg := segRow s.1
  sc := k0_pay45 a9
  w := k0_pay4 a10
  r := k0_pay1 (k0_pay44 a8) (k0_pay46 a8)
  sin := k0_pay2 (k0_pay44 a8) (k0_pay46 a8)
  cos := k0_pay3 (k0_pay44 a8) (k0_pay46 a8)

/-- The kernel's clustering, run to its end. -/
def clustering (P : Planes F) : CState := cRun P 5000 cInit

/-- The kernel's output array as a function of the arrays it is given. -/
def kernelOut (a0 a1 a2 a3 a4 a5 a6 : FVec F S8x640 .f32) (a8 a9 : FVec F S1x5120 .f32) (a10 : FVec F S5120x8 .f32) : FVec F S5120x16 .f32 :=
  let R := rowsOf (clustering (planes a0 a1 a2 a3 a4 a5 a6)) a8 a9 a10
  outAfter R (blocks R)

end Cert.Proof.K

end
-- ==== Proof.M.Geo.lean ====
/- Axis-aligned boxes by their six faces, and the relation the clustering is over: the overlap of two boxes divided by the
   volume they cover together exceeds the threshold. All in the arithmetic of the idealized programs. -/
module

public import Idealize.ShloMosaic.Lib.Pointwise

@[expose] public section

noncomputable section

namespace Cert.Proof.M

open Idealize.ShloMosaic

/-- The faces of a family of boxes. -/
structure Geo (ι : Type) where
  x1 : ι → EReal
  x2 : ι → EReal
  y1 : ι → EReal
  y2 : ι → EReal
  z1 : ι → EReal
  z2 : ι → EReal

variable {ι : Type} (g : Geo ι)

/-- The volume of box `i`. -/
def Geo.vol (i : ι) : EReal := (g.x2 i - g.x1 i) * (g.y2 i - g.y1 i) * (g.z2 i - g.z1 i)

/-- The length of the overlap of two intervals. -/
def ov (a1 a2 b1 b2 : EReal) : EReal := max (min a2 b2 - max a1 b1) 0

theorem ov_comm (a1 a2 b1 b2 : EReal) : ov a1 a2 b1 b2 = ov b1 b2 a1 a2 := by
  unfold ov; rw [min_comm a2, max_comm a1]

/-- The overlap of boxes `j` and `i`. -/
def Geo.inter (j i : ι) : EReal :=
  ov (g.x1 j) (g.x2 j) (g.x1 i) (g.x2 i) * ov (g.y1 j) (g.y2 j) (g.y1 i) (g.y2 i) * ov (g.z1 j) (g.z2 j) (g.z1 i) (g.z2 i)

theorem Geo.inter_comm (j i : ι) : g.inter j i = g.inter i j := by
  unfold Geo.inter; rw [ov_comm (g.x1 j), ov_comm (g.y1 j), ov_comm (g.z1 j)]

/-- Box `j` joins a cluster that box `i` opens. -/
def Geo.hit (i j : ι) : Prop :=
  Ideal.ofBits .f32 0x3DCCCCCD#32 < Ideal.div (g.inter j i) (max (g.vol j + g.vol i - g.inter j i) (Ideal.ofBits .f32 0x358637BD#32))

instance (i j : ι) : Decidable (g.hit i j) := Classical.dec _

end Cert.Proof.M
-- ==== Proof.K.TripVal.lean ====
/- The clustering loop's payloads, element by element. -/
module

public import proofs.«01_k».proof.Proof.K.Trips
public import proofs.«01_k».proof.Proof.M.Geo
public import Idealize.ShloMosaic.Lib.Pointwise

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

/-- Where box `n` lies in the planes. -/
def pos (n : Fin 5120) : S8x640.Idx :=
  ix2 (n0 := 8) (n1 := 640) ⟨n.val / 640, by have := n.isLt; omega⟩ ⟨n.val % 640, Nat.mod_lt _ (by decide)⟩

theorem pos_of (r : Fin 8) (l : Fin 640) : ∃ n : Fin 5120, n.val = 640 * r.val + l.val ∧ ix2 r l = pos n := by
  refine ⟨⟨640 * r.val + l.val, by have := r.isLt; have := l.isLt; omega⟩, rfl, ?_⟩
  unfold pos
  congr 1
  · exact Fin.ext (by show r.val = (640 * r.val + l.val) / 640; have := l.isLt; omega)
  · exact Fin.ext (by show l.val = (640 * r.val + l.val) % 640; have := l.isLt; omega)

theorem pay8_at (n : Fin 5120) : k0_pay8 (pos n) = BitVec.ofNat 32 n.val := by
  unfold pos
  pointwise [k0_pay8]
  show BitVec.ofNat 32 (n.val / 640) * BitVec.ofNat 32 640 + BitVec.ofNat 32 (n.val % 640) = _
  rw [← BitVec.ofNat_mul, ← BitVec.ofNat_add]
  congr 1; omega

theorem slt_5000 (n : ℕ) (h : n < 2 ^ 31) : (BitVec.ofNat 32 n).slt 5000#32 = decide (n < 5000) := by
  have e : (BitVec.ofNat 32 n).toNat = n := by rw [BitVec.toNat_ofNat]; omega
  rw [BitVec.slt, BitVec.toInt_eq_toNat_of_lt (by rw [e]; omega), BitVec.toInt_eq_toNat_of_lt (by decide), e]
  exact decide_eq_decide.mpr (by simp)

theorem pay9_at (n : Fin 5120) : k0_pay9 (pos n) = BitVec.ofBool (decide (n.val < 5000)) := by
  have h8 := pay8_at n
  have : k0_pay9 (pos n) = BitVec.ofBool ((k0_pay8 (pos n)).slt 5000#32) := rfl
  rw [this, h8, slt_5000 _ (by have := n.isLt; omega)]

theorem pay31_at (n : Fin 5120) : k0_pay31 k0_pay8 k0_pay9 (pos n) = BitVec.ofNat 32 (if n.val < 5000 then n.val else 5120) := by
  have : k0_pay31 k0_pay8 k0_pay9 (pos n) = Scalar.select (k0_pay9 (pos n)) (k0_pay8 (pos n)) 5120#32 := rfl
  rw [this, pay9_at, pay8_at]
  by_cases h : n.val < 5000 <;> simp [h, Scalar.select]

/-- The sum that picks one box's entry. -/
theorem pick (v : FVec Ideal S8x640 .f32) (a : IVec S8x640 32) (x : IVec S1x1 32) (n : Fin 5120)
    (h : ∀ j : Fin 5120, a (pos j) = x (ix2 0 0) ↔ j = n) :
    (∑ r : Fin 8, ∑ l : Fin 640, Scalar.select (IntOp.cmpi CmpIPredicate.eq (a (ix2 r l)) (x (ix2 0 0))) (v (ix2 r l)) (0 : EReal)) = v (pos n) := by
  have hr : n.val / 640 < 8 := by have := n.isLt; omega
  have hl : n.val % 640 < 640 := Nat.mod_lt _ (by decide)
  have key : ∀ (r : Fin 8) (l : Fin 640), Scalar.select (IntOp.cmpi CmpIPredicate.eq (a (ix2 r l)) (x (ix2 0 0))) (v (ix2 r l)) (0 : EReal)
      = if r = ⟨n.val / 640, hr⟩ ∧ l = ⟨n.val % 640, hl⟩ then v (pos n) else 0 := by
    intro r l
    obtain ⟨j, hj, e⟩ := pos_of r l
    rw [e]
    have hc : (IntOp.cmpi CmpIPredicate.eq (a (pos j)) (x (ix2 0 0))) = BitVec.ofBool (decide (j = n)) := by
      show BitVec.ofBool (a (pos j) == x (ix2 0 0)) = _
      congr 1
      rw [Bool.eq_iff_iff, beq_iff_eq, decide_eq_true_iff]
      exact h j
    rw [hc]
    have hiff : (r = ⟨n.val / 640, hr⟩ ∧ l = ⟨n.val % 640, hl⟩) ↔ j = n := by
      rw [Fin.ext_iff, Fin.ext_iff, Fin.ext_iff]
      show (r.val = n.val / 640 ∧ l.val = n.val % 640) ↔ j.val = n.val
      have := l.isLt; omega
    by_cases hjn : j = n
    · rw [if_pos (hiff.mpr hjn)]; subst hjn; simp [Scalar.select]
    · rw [if_neg (fun hh => hjn (hiff.mp hh))]; simp [Scalar.select, hjn]
  simp only [key]
  rw [Finset.sum_eq_single (⟨n.val / 640, hr⟩ : Fin 8), Finset.sum_eq_single (⟨n.val % 640, hl⟩ : Fin 640)]
  · simp
  · intro l _ hl'; rw [if_neg (fun hh => hl' hh.2)]
  · intro hh; exact absurd (Finset.mem_univ _) hh
  · intro r _ hr'
    exact Finset.sum_eq_zero fun l _ => if_neg (fun hh => hr' hh.1)
  · intro hh; exact absurd (Finset.mem_univ _) hh

section
variable (a : IVec S8x640 32) (x : IVec S1x1 32) (n : Fin 5120) (h : ∀ j : Fin 5120, a (pos j) = x (ix2 0 0) ↔ j = n)
  (v : FVec Ideal S8x640 .f32)
include h

theorem pay48_at : k0_pay48 v a x (ix2 0 0) = v (pos n) := by
  refine Eq.trans ?_ (pick v a x n h)
  pointwise [k0_pay48, k0_pay47]
theorem pay49_at : k0_pay49 v a x (ix2 0 0) = v (pos n) := by
  refine Eq.trans ?_ (pick v a x n h)
  pointwise [k0_pay49, k0_pay47]
theorem pay50_at : k0_pay50 v a x (ix2 0 0) = v (pos n) := by
  refine Eq.trans ?_ (pick v a x n h)
  pointwise [k0_pay50, k0_pay47]
theorem pay51_at : k0_pay51 v a x (ix2 0 0) = v (pos n) := by
  refine Eq.trans ?_ (pick v a x n h)
  pointwise [k0_pay51, k0_pay47]
theorem pay52_at : k0_pay52 v a x (ix2 0 0) = v (pos n) := by
  refine Eq.trans ?_ (pick v a x n h)
  pointwise [k0_pay52, k0_pay47]
theorem pay53_at : k0_pay53 v a x (ix2 0 0) = v (pos n) := by
  refine Eq.trans ?_ (pick v a x n h)
  pointwise [k0_pay53, k0_pay47]
end

theorem pay6_at (x1 x2 y1 y2 z1 z2 vol : FVec Ideal S8x640 .f32) (a : IVec S8x640 32) (n : BitVec 32)
    (a1 a2 b1 b2 c1 c2 v1 v2 : FVec Ideal S1x1 .f32) (r : Fin 8) (l : Fin 640) :
    k0_pay6 x1 x2 y1 y2 z1 z2 vol a n a1 a2 b1 b2 c1 c2 v1 v2 (ix2 r l)
      = if Ideal.ofBits .f32 0x3DCCCCCD#32 < Ideal.div
          (ov (x1 (ix2 r l)) (x2 (ix2 r l)) (a1 (ix2 0 0)) (a2 (ix2 0 0)) * ov (y1 (ix2 r l)) (y2 (ix2 r l)) (b1 (ix2 0 0)) (b2 (ix2 0 0))
            * ov (z1 (ix2 r l)) (z2 (ix2 r l)) (c1 (ix2 0 0)) (c2 (ix2 0 0)))
          (max (vol (ix2 r l) + v1 (ix2 0 0) * v2 (ix2 0 0)
            - ov (x1 (ix2 r l)) (x2 (ix2 r l)) (a1 (ix2 0 0)) (a2 (ix2 0 0)) * ov (y1 (ix2 r l)) (y2 (ix2 r l)) (b1 (ix2 0 0)) (b2 (ix2 0 0))
              * ov (z1 (ix2 r l)) (z2 (ix2 r l)) (c1 (ix2 0 0)) (c2 (ix2 0 0))) (Ideal.ofBits .f32 0x358637BD#32))
        then 5120#32 + n else a (ix2 r l) := by
  unfold ov
  pointwise [k0_pay6]
  rfl

/-- The planes hold the family of boxes `g`. -/
structure Fits (P : Planes Ideal) (g : Geo (Fin 5000)) : Prop where
  x1 : ∀ (n : Fin 5120) (h : n.val < 5000), P.x1 (pos n) = g.x1 ⟨n.val, h⟩
  x2 : ∀ (n : Fin 5120) (h : n.val < 5000), P.x2 (pos n) = g.x2 ⟨n.val, h⟩
  y1 : ∀ (n : Fin 5120) (h : n.val < 5000), P.y1 (pos n) = g.y1 ⟨n.val, h⟩
  y2 : ∀ (n : Fin 5120) (h : n.val < 5000), P.y2 (pos n) = g.y2 ⟨n.val, h⟩
  z1 : ∀ (n : Fin 5120) (h : n.val < 5000), P.z1 (pos n) = g.z1 ⟨n.val, h⟩
  z2 : ∀ (n : Fin 5120) (h : n.val < 5000), P.z2 (pos n) = g.z2 ⟨n.val, h⟩
  vol : ∀ (n : Fin 5120) (h : n.val < 5000), P.vol (pos n) = g.vol ⟨n.val, h⟩

/-- One trip's plane at a box: the taken box's number if the box joins, else as it was. -/
theorem cPlane_at (P : Planes Ideal) (g : Geo (Fin 5000)) (hP : Fits P g) (s : CState) (n : Fin 5120) (hn : n.val < 5000)
    (h : ∀ j : Fin 5120, s.1 (pos j) = s.2.2 (ix2 0 0) ↔ j = n) (j : Fin 5120) (hj : j.val < 5000) :
    cPlane P s (pos j) = if g.hit ⟨n.val, hn⟩ ⟨j.val, hj⟩ then 5120#32 + s.2.1 else s.1 (pos j) := by
  unfold cPlane
  have e54 : k0_pay54 P.x1 P.x2 P.y1 P.y2 s.1 s.2.2 (ix2 0 0) = (P.x2 (pos n) - P.x1 (pos n)) * (P.y2 (pos n) - P.y1 (pos n)) := by
    have : k0_pay54 P.x1 P.x2 P.y1 P.y2 s.1 s.2.2 (ix2 0 0) = (k0_pay49 P.x2 s.1 s.2.2 (ix2 0 0) - k0_pay48 P.x1 s.1 s.2.2 (ix2 0 0))
      * (k0_pay51 P.y2 s.1 s.2.2 (ix2 0 0) - k0_pay50 P.y1 s.1 s.2.2 (ix2 0 0)) := by pointwise [k0_pay54]
    rw [this, pay48_at _ _ _ h, pay49_at _ _ _ h, pay50_at _ _ _ h, pay51_at _ _ _ h]
  have e55 : k0_pay55 P.z1 P.z2 s.1 s.2.2 (ix2 0 0) = (P.z2 (pos n) - P.z1 (pos n)) := by
    have : k0_pay55 P.z1 P.z2 s.1 s.2.2 (ix2 0 0) = (k0_pay53 P.z2 s.1 s.2.2 (ix2 0 0) - k0_pay52 P.z1 s.1 s.2.2 (ix2 0 0)) := by pointwise [k0_pay55]
    rw [this, pay52_at _ _ _ h, pay53_at _ _ _ h]
  have hpos : pos j = ix2 (n0 := 8) (n1 := 640) ⟨j.val / 640, by have := j.isLt; omega⟩ ⟨j.val % 640, Nat.mod_lt _ (by decide)⟩ := rfl
  rw [hpos, pay6_at, ← hpos, e54, e55, pay48_at _ _ _ h, pay49_at _ _ _ h, pay50_at _ _ _ h, pay51_at _ _ _ h, pay52_at _ _ _ h, pay53_at _ _ _ h,
    hP.x1 j hj, hP.x2 j hj, hP.y1 j hj, hP.y2 j hj, hP.z1 j hj, hP.z2 j hj, hP.vol j hj,
    hP.x1 n hn, hP.x2 n hn, hP.y1 n hn, hP.y2 n hn, hP.z1 n hn, hP.z2 n hn]
  by_cases hh : g.hit ⟨n.val, hn⟩ ⟨j.val, hj⟩
  · rw [if_pos hh]; exact if_pos hh
  · rw [if_neg hh]; exact if_neg hh

/-- One trip's plane anywhere: the taken box's number, or as it was. -/
theorem cPlane_or (P : Planes Ideal) (s : CState) (j : Fin 5120) : cPlane P s (pos j) = 5120#32 + s.2.1 ∨ cPlane P s (pos j) = s.1 (pos j) := by
  unfold cPlane pos
  rw [pay6_at]
  split
  · exact Or.inl rfl
  · exact Or.inr rfl

/-- The smallest element, as the printed reduction computes it. -/
theorem fold_min {n : ℕ} (f : Fin (n + 1) → BitVec 32) :
    ∃ i, Finset.univ.fold IntOp.minsi (2147483647#32) f = f i ∧ ∀ j, (f i).toInt ≤ (f j).toInt := by
  have gen : ∀ s : Finset (Fin (n + 1)), (s.fold IntOp.minsi (2147483647#32) f = 2147483647#32 ∨ ∃ i ∈ s, s.fold IntOp.minsi (2147483647#32) f = f i)
      ∧ ∀ j ∈ s, (s.fold IntOp.minsi (2147483647#32) f).toInt ≤ (f j).toInt := by
    intro s
    induction s using Finset.induction_on with
    | empty => exact ⟨Or.inl rfl, fun j hj => absurd hj (Finset.notMem_empty _)⟩
    | insert b s hb ih =>
      rw [Finset.fold_insert hb]
      have hm : ∀ p q : BitVec 32, (IntOp.minsi p q = p ∧ p.toInt ≤ q.toInt) ∨ (IntOp.minsi p q = q ∧ q.toInt ≤ p.toInt) := by
        intro p q
        unfold IntOp.minsi
        by_cases hpq : p.toInt ≤ q.toInt
        · by_cases hqp : q.toInt ≤ p.toInt
          · have : p = q := BitVec.eq_of_toInt_eq (le_antisymm hpq hqp)
            subst this; left; simp
          · left; simp [BitVec.slt]; omega
        · right; simp [BitVec.slt]; omega
      rcases hm (f b) (s.fold IntOp.minsi (2147483647#32) f) with ⟨e, hle⟩ | ⟨e, hle⟩
      · rw [e]
        refine ⟨Or.inr ⟨b, Finset.mem_insert_self _ _, rfl⟩, fun j hj => ?_⟩
        rcases Finset.mem_insert.mp hj with rfl | hj
        · exact le_refl _
        · exact le_trans hle (ih.2 j hj)
      · rw [e]
        refine ⟨?_, fun j hj => ?_⟩
        · rcases ih.1 with h | ⟨i, hi, h⟩
          · exact Or.inl h
          · exact Or.inr ⟨i, Finset.mem_insert_of_mem hi, h⟩
        · rcases Finset.mem_insert.mp hj with rfl | hj
          · exact hle
          · exact ih.2 j hj
  obtain ⟨h1, h2⟩ := gen Finset.univ
  rcases h1 with h | ⟨i, -, h⟩
  · have h0 := h2 0 (Finset.mem_univ _)
    have hmax : (f 0).toInt ≤ (2147483647#32).toInt := by
      have := BitVec.toInt_lt (x := f 0)
      have e : (2147483647#32 : BitVec 32).toInt = 2147483647 := by decide
      rw [e]; norm_num at this; omega
    refine ⟨0, ?_, fun j => ?_⟩
    · rw [h] at h0 ⊢; exact BitVec.eq_of_toInt_eq (le_antisymm h0 hmax)
    · have hj := h2 j (Finset.mem_univ _)
      rw [h] at hj; omega
  · exact ⟨i, h, fun j => h ▸ h2 j (Finset.mem_univ _)⟩

/-- The smallest element of a plane, by the two printed reductions. -/
theorem fold_min2 (a : IVec S8x640 32) : ∃ p : Fin 5120,
    (Finset.univ.fold IntOp.minsi (2147483647#32) fun r : Fin 8 => Finset.univ.fold IntOp.minsi (2147483647#32) fun l : Fin 640 => a (ix2 r l)) = a (pos p)
    ∧ ∀ q : Fin 5120, (a (pos p)).toInt ≤ (a (pos q)).toInt := by
  obtain ⟨r, hr, hr'⟩ := fold_min (n := 7) fun r : Fin 8 => Finset.univ.fold IntOp.minsi (2147483647#32) fun l : Fin 640 => a (ix2 r l)
  obtain ⟨l, hl, hl'⟩ := fold_min (n := 639) fun l : Fin 640 => a (ix2 r l)
  obtain ⟨p, -, hp⟩ := pos_of r l
  refine ⟨p, by rw [hr, hl, hp], fun q => ?_⟩
  have h1 := hr' ⟨q.val / 640, by have := q.isLt; omega⟩
  obtain ⟨l2, hl2, hl2'⟩ := fold_min (n := 639) fun l : Fin 640 => a (ix2 (⟨q.val / 640, by have := q.isLt; omega⟩ : Fin 8) l)
  have h2 := hl2' ⟨q.val % 640, Nat.mod_lt _ (by decide)⟩
  rw [← hp, ← hl]
  refine le_trans h1 ?_
  rw [hl2]
  exact h2

theorem cNext_at (P : Planes Ideal) (s : CState) : ∃ p : Fin 5120, cNext P s (ix2 0 0) = cPlane P s (pos p)
    ∧ ∀ q : Fin 5120, (cPlane P s (pos p)).toInt ≤ (cPlane P s (pos q)).toInt := by
  obtain ⟨p, hp, hq⟩ := fold_min2 (cPlane P s)
  refine ⟨p, ?_, hq⟩
  rw [← hp]
  unfold cNext cPlane
  pointwise [k0_pay7]

theorem pay32_at : ∃ p : Fin 5120, k0_pay32 k0_pay8 k0_pay9 (ix2 0 0) = k0_pay31 k0_pay8 k0_pay9 (pos p)
    ∧ ∀ q : Fin 5120, (k0_pay31 k0_pay8 k0_pay9 (pos p)).toInt ≤ (k0_pay31 k0_pay8 k0_pay9 (pos q)).toInt := by
  obtain ⟨p, hp, hq⟩ := fold_min2 (k0_pay31 k0_pay8 k0_pay9)
  refine ⟨p, ?_, hq⟩
  rw [← hp]
  pointwise [k0_pay32]

end Cert.Proof.K
end
-- ==== Proof.K.Host.lean ====
/- What the host lines before the kernel leave in its arguments. -/
module

public import proofs.«01_k».proof.Proof.K.Launch
public import proofs.«01_k».proof.Proof.K.TripVal
public import Idealize.ShloMosaic.Lib.StableHlo.RunRead
public import Idealize.ShloMosaic.Lib.KernelVsHost

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

variable (m : (ℓ : Loc nD τ sig) → Buf (Elt Ideal) ℓ) (c : Dev nD)

/-- The boxes as launched. -/
abbrev boxes : FVec Ideal S5000x7 .f32 := m ((c : Thread nD τ).loc main_arg0)
/-- The scores as launched. -/
abbrev scores : FVec Ideal S5000 .f32 := m ((c : Thread nD τ).loc main_arg1)

/-- A vector with 120 zeros after it. -/
def padded (x : FVec Ideal S5000 .f32) : FVec Ideal S5120 .f32 :=
  pad S5120 ![0] ![120] ![0] x (sitofp .f32 (constantI S_ 32 0#32)) pads_S5000_S5120_01200 h_S_

/-- Column `k` of the boxes. -/
def col (A : FVec Ideal S5000x7 .f32) (k : ℕ) (h : S5000x7.Slices ![0, k] S5000x1) : FVec Ideal S5000 .f32 :=
  shapeCast S5000 (extractStridedSlice S5000x1 ![0, k] A h) shapeCasts_S5000x1_S5000

theorem V_v3 : V m c main_call0_v3 = shapeCast S8x640 (padded (col (boxes m c) 0 slices_S5000x7_S5000x1_0_0)) shapeCasts_S5120_S8x640 := by
  unfold V V0; simp only [List.flatten_cons, List.flatten_nil, List.append_nil, hostOps0]; after_reads_simp; rfl
theorem V_v7 : V m c main_call0_v7 = shapeCast S8x640 (padded (col (boxes m c) 1 slices_S5000x7_S5000x1_0_1)) shapeCasts_S5120_S8x640 := by
  unfold V V0; simp only [List.flatten_cons, List.flatten_nil, List.append_nil, hostOps0]; after_reads_simp; rfl
theorem V_v11 : V m c main_call0_v11 = shapeCast S8x640 (padded (col (boxes m c) 2 slices_S5000x7_S5000x1_0_2)) shapeCasts_S5120_S8x640 := by
  unfold V V0; simp only [List.flatten_cons, List.flatten_nil, List.append_nil, hostOps0]; after_reads_simp; rfl
theorem V_v15 : V m c main_call0_v15 = shapeCast S8x640 (padded (col (boxes m c) 3 slices_S5000x7_S5000x1_0_3)) shapeCasts_S5120_S8x640 := by
  unfold V V0; simp only [List.flatten_cons, List.flatten_nil, List.append_nil, hostOps0]; after_reads_simp; rfl
theorem V_v19 : V m c main_call0_v19 = shapeCast S8x640 (padded (col (boxes m c) 4 slices_S5000x7_S5000x1_0_4)) shapeCasts_S5120_S8x640 := by
  unfold V V0; simp only [List.flatten_cons, List.flatten_nil, List.append_nil, hostOps0]; after_reads_simp; rfl
theorem V_v23 : V m c main_call0_v23 = shapeCast S8x640 (padded (col (boxes m c) 5 slices_S5000x7_S5000x1_0_5)) shapeCasts_S5120_S8x640 := by
  unfold V V0; simp only [List.flatten_cons, List.flatten_nil, List.append_nil, hostOps0]; after_reads_simp; rfl
theorem V_v27 : V m c main_call0_v27 = shapeCast S8x640 (padded (col (boxes m c) 6 slices_S5000x7_S5000x1_0_6)) shapeCasts_S5120_S8x640 := by
  unfold V V0; simp only [List.flatten_cons, List.flatten_nil, List.append_nil, hostOps0]; after_reads_simp; rfl

theorem V_v33 : V m c main_call0_v33 = shapeCast S1x5120 (padded (col (boxes m c) 6 slices_S5000x7_S5000x1_0_6)) shapeCasts_S5120_S1x5120 := by
  unfold V V0; simp only [List.flatten_cons, List.flatten_nil, List.append_nil, hostOps0]; after_reads_simp; rfl
theorem V_v35 : V m c main_call0_v35 = shapeCast S1x5120 (padded (scores m c)) shapeCasts_S5120_S1x5120 := by
  unfold V V0; simp only [List.flatten_cons, List.flatten_nil, List.append_nil, hostOps0]; after_reads_simp; rfl

theorem col_at (A : FVec Ideal S5000x7 .f32) (k : ℕ) (hk : k < 7) (h : S5000x7.Slices ![0, k] S5000x1) (i : Fin 5000) :
    col A k h (ix1 i) = A (ix2 i ⟨k, hk⟩) := by
  unfold col
  pointwise

theorem padded_at (x : FVec Ideal S5000 .f32) (n : Fin 5120) :
    padded x (ix1 n) = if h : n.val < 5000 then x (ix1 ⟨n.val, h⟩) else 0 := by
  have e : (sitofp .f32 (constantI S_ 32 0#32) : FVec Ideal S_ .f32) = fun _ => (0 : EReal) := by
    funext j; show ((((0#32 : BitVec 32).toInt : ℤ) : ℝ) : EReal) = 0; simp
  unfold padded
  rw [e]
  by_cases h : n.val < 5000
  · rw [dif_pos h, pad_apply_of_inside _ _ _ _ _ _ _ _ (ix1 ⟨n.val, h⟩) (by intro a; fin_cases a; simp [ix1])]
  · rw [dif_neg h, pad_apply_of_not_inside _ _ _ _ _ _ _ _ 0 (by simp [ix1]; omega)]

/-- The columns that the second loop's products are over. -/
def cols (A : FVec Ideal S5000x7 .f32) (s : FVec Ideal S5000 .f32) (n : Fin 5000) : Fin 8 → EReal :=
  ![1, s (ix1 n), A (ix2 n 0), A (ix2 n 1), A (ix2 n 2), A (ix2 n 3), A (ix2 n 4), A (ix2 n 5)]

theorem after_split (ops : List (HloOp τ sig (Elt Ideal))) (k : ℕ) (X : Valuation τ sig (Elt Ideal)) :
    StableHlo.after ops X = StableHlo.after (ops.drop k) (StableHlo.after (ops.take k) X) := by
  have h : ∀ (l₁ l₂ : List (HloOp τ sig (Elt Ideal))) (Y : Valuation τ sig (Elt Ideal)),
      StableHlo.after (l₁ ++ l₂) Y = StableHlo.after l₂ (StableHlo.after l₁ Y) := by
    intro l₁; induction l₁ with
    | nil => intro _ _; rfl
    | cons op l ih => intro l₂ Y; exact ih l₂ _
  rw [← h, List.take_append_drop]

theorem V_v58_eq : V m c main_call0_v58 = pad S5120x8 ![0, 0] ![120, 0] ![0, 0]
    (concatenate S5000x8 1 [⟨S5000x1, broadcastInDim S5000x1 ![0] bcast_S5000_S5000x1_0 (broadcastInDim S5000 ![] bcast_S_S5000 (constant (F := Ideal) S_ .f32 0x3F800000#32))⟩,
      ⟨S5000x1, broadcastInDim S5000x1 ![0] bcast_S5000_S5000x1_0 (scores m c)⟩,
      ⟨S5000x1, broadcastInDim S5000x1 ![0] bcast_S5000_S5000x1_0 (col (boxes m c) 0 slices_S5000x7_S5000x1_0_0)⟩, ⟨S5000x1, broadcastInDim S5000x1 ![0] bcast_S5000_S5000x1_0 (col (boxes m c) 1 slices_S5000x7_S5000x1_0_1)⟩, ⟨S5000x1, broadcastInDim S5000x1 ![0] bcast_S5000_S5000x1_0 (col (boxes m c) 2 slices_S5000x7_S5000x1_0_2)⟩, ⟨S5000x1, broadcastInDim S5000x1 ![0] bcast_S5000_S5000x1_0 (col (boxes m c) 3 slices_S5000x7_S5000x1_0_3)⟩, ⟨S5000x1, broadcastInDim S5000x1 ![0] bcast_S5000_S5000x1_0 (col (boxes m c) 4 slices_S5000x7_S5000x1_0_4)⟩, ⟨S5000x1, broadcastInDim S5000x1 ![0] bcast_S5000_S5000x1_0 (col (boxes m c) 5 slices_S5000x7_S5000x1_0_5)⟩]
      concatenates_S5000x1_S5000x1_S5000x1_S5000x1_S5000x1_S5000x1_S5000x1_S5000x1_S5000x8_d1)
    (sitofp .f32 (constantI S_ 32 0#32)) pads_S5000x8_S5120x8_01200_000 h_S_ := by
  unfold V V0
  simp only [List.flatten_cons, List.flatten_nil, List.append_nil]
  rw [after_split _ 78]
  have h49 : StableHlo.after (List.take 78 hostOps0) (fun b => m (c, b)) (Proc.devRef .tc main_call0_v49) = broadcastInDim S5000x1 ![0] bcast_S5000_S5000x1_0 (broadcastInDim S5000 ![] bcast_S_S5000 (constant (F := Ideal) S_ .f32 0x3F800000#32)) := by
    simp only [hostOps0, List.take_succ_cons, List.take_zero]; after_reads_simp; rfl
  have h50 : StableHlo.after (List.take 78 hostOps0) (fun b => m (c, b)) (Proc.devRef .tc main_call0_v50) = broadcastInDim S5000x1 ![0] bcast_S5000_S5000x1_0 (scores m c) := by
    simp only [hostOps0, List.take_succ_cons, List.take_zero]; after_reads_simp; rfl
  have h51 : StableHlo.after (List.take 78 hostOps0) (fun b => m (c, b)) (Proc.devRef .tc main_call0_v51) = broadcastInDim S5000x1 ![0] bcast_S5000_S5000x1_0 (col (boxes m c) 0 slices_S5000x7_S5000x1_0_0) := by
    simp only [hostOps0, List.take_succ_cons, List.take_zero]; after_reads_simp; rfl
  have h52 : StableHlo.after (List.take 78 hostOps0) (fun b => m (c, b)) (Proc.devRef .tc main_call0_v52) = broadcastInDim S5000x1 ![0] bcast_S5000_S5000x1_0 (col (boxes m c) 1 slices_S5000x7_S5000x1_0_1) := by
    simp only [hostOps0, List.take_succ_cons, List.take_zero]; after_reads_simp; rfl
  have h53 : StableHlo.after (List.take 78 hostOps0) (fun b => m (c, b)) (Proc.devRef .tc main_call0_v53) = broadcastInDim S5000x1 ![0] bcast_S5000_S5000x1_0 (col (boxes m c) 2 slices_S5000x7_S5000x1_0_2) := by
    simp only [hostOps0, List.take_succ_cons, List.take_zero]; after_reads_simp; rfl
  have h54 : StableHlo.after (List.take 78 hostOps0) (fun b => m (c, b)) (Proc.devRef .tc main_call0_v54) = broadcastInDim S5000x1 ![0] bcast_S5000_S5000x1_0 (col (boxes m c) 3 slices_S5000x7_S5000x1_0_3) := by
    simp only [hostOps0, List.take_succ_cons, List.take_zero]; after_reads_simp; rfl
  have h55 : StableHlo.after (List.take 78 hostOps0) (fun b => m (c, b)) (Proc.devRef .tc main_call0_v55) = broadcastInDim S5000x1 ![0] bcast_S5000_S5000x1_0 (col (boxes m c) 4 slices_S5000x7_S5000x1_0_4) := by
    simp only [hostOps0, List.take_succ_cons, List.take_zero]; after_reads_simp; rfl
  have h56 : StableHlo.after (List.take 78 hostOps0) (fun b => m (c, b)) (Proc.devRef .tc main_call0_v56) = broadcastInDim S5000x1 ![0] bcast_S5000_S5000x1_0 (col (boxes m c) 5 slices_S5000x7_S5000x1_0_5) := by
    simp only [hostOps0, List.take_succ_cons, List.take_zero]; after_reads_simp; rfl
  rw [← h49, ← h50, ← h51, ← h52, ← h53, ← h54, ← h55, ← h56]
  clear h49 h50 h51 h52 h53 h54 h55 h56
  generalize StableHlo.after (List.take 78 hostOps0) (fun b => m (c, b)) = W
  simp only [hostOps0, List.drop_succ_cons, List.drop_zero]
  after_reads_simp
  rfl

theorem V_v58 (n : Fin 5120) (k : Fin 8) : V m c main_call0_v58 (ix2 n k) = if h : n.val < 5000 then cols (boxes m c) (scores m c) ⟨n.val, h⟩ k else 0 := by
  have e : (sitofp .f32 (constantI S_ 32 0#32) : FVec Ideal S_ .f32) = fun _ => (0 : EReal) := by
    funext j; show ((((0#32 : BitVec 32).toInt : ℤ) : ℝ) : EReal) = 0; simp
  rw [V_v58_eq, e]
  by_cases h : n.val < 5000
  · rw [dif_pos h, pad_apply_of_inside _ _ _ _ _ _ _ _ (ix2 ⟨n.val, h⟩ k) (by intro a; fin_cases a <;> simp [ix2])]
    fin_cases k <;> pointwise [cols] <;> exact col_at _ _ (by decide) _ _
  · rw [dif_neg h, pad_apply_of_not_inside _ _ _ _ _ _ _ _ 0 (by simp [ix2]; omega)]
end Cert.Proof.K
end
-- ==== Proof.M.Boxes.lean ====
/- The faces of the boxes from their seven numbers: the axis-aligned envelope of a box turned by its heading. -/
module

public import proofs.«01_k».proof.Proof.M.Geo

@[expose] public section

noncomputable section

namespace Cert.Proof.M

open Idealize.ShloMosaic

/-- One half. -/
abbrev half : EReal := Ideal.ofBits .f32 0x3F000000#32

/-- A heading brought into one period. -/
def wrap (r : EReal) : EReal :=
  r - Ideal.liftRound Int.floor (Ideal.div r (Ideal.ofBits .f32 0x40C90FDB#32) + half) * Ideal.ofBits .f32 0x40C90FDB#32

/-- The size of the cosine of a heading. -/
def ca (r : EReal) : EReal := max (Ideal.cos (wrap r)) (-Ideal.cos (wrap r))
/-- The size of the sine of a heading. -/
def sa (r : EReal) : EReal := max (Ideal.sin (wrap r)) (-Ideal.sin (wrap r))

/-- The faces of the boxes with the rows `A`. -/
def geo (A : Fin 5000 → Fin 7 → EReal) : Geo (Fin 5000) where
  x1 i := A i 0 - half * (A i 3 * ca (A i 6) + A i 4 * sa (A i 6))
  x2 i := A i 0 + half * (A i 3 * ca (A i 6) + A i 4 * sa (A i 6))
  y1 i := A i 1 - half * (A i 3 * sa (A i 6) + A i 4 * ca (A i 6))
  y2 i := A i 1 + half * (A i 3 * sa (A i 6) + A i 4 * ca (A i 6))
  z1 i := A i 2 - half * A i 5
  z2 i := A i 2 + half * A i 5

/-- The rows are real numbers and the sizes are at least a hundredth. -/
structure Good (A : Fin 5000 → Fin 7 → EReal) : Prop where
  real : ∀ i k, ∃ r : ℝ, A i k = r
  d3 : ∀ i, Ideal.ofBits .f32 0x3C23D70A#32 ≤ A i 3
  d4 : ∀ i, Ideal.ofBits .f32 0x3C23D70A#32 ≤ A i 4
  d5 : ∀ i, Ideal.ofBits .f32 0x3C23D70A#32 ≤ A i 5

end Cert.Proof.M
-- ==== Proof.K.Fit.lean ====
/- The kernel's planes hold the faces of the launched boxes. -/
module

public import proofs.«01_k».proof.Proof.K.Host
public import proofs.«01_k».proof.Proof.M.Boxes

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

/-- The rows of an array of boxes. -/
abbrev rows (A : FVec Ideal S5000x7 .f32) : Fin 5000 → Fin 7 → EReal := fun i k => A (ix2 i k)

theorem plane_at (x : FVec Ideal S5000 .f32) (n : Fin 5120) (h : n.val < 5000) :
    shapeCast S8x640 (padded x) shapeCasts_S5120_S8x640 (pos n) = x (ix1 ⟨n.val, h⟩) := by
  have e := padded_at x n
  rw [dif_pos h] at e
  rw [← e]
  generalize padded x = y
  unfold pos
  pointwise

section
variable (a0 a1 a2 a3 a4 a5 a6 : FVec Ideal S8x640 .f32) (n : Fin 5120)

theorem plane_x1 (h : n.val < 5000) : (planes a0 a1 a2 a3 a4 a5 a6).x1 (pos n)
    = a0 (pos n) - half * (a3 (pos n) * ca (a6 (pos n)) + a4 (pos n) * sa (a6 (pos n))) := by
  have h9 := pay9_at n
  rw [decide_eq_true h] at h9
  show k0_pay24 _ _ _ _ = _
  unfold pos ca sa wrap
  unfold pos at h9
  pointwise [k0_pay24, k0_pay10, k0_pay19, k0_pay23, k0_pay16, k0_pay17, k0_pay18, k0_pay13, k0_pay14]
  rw [h9]
  exact add_zero _

theorem plane_x2 (h : n.val < 5000) : (planes a0 a1 a2 a3 a4 a5 a6).x2 (pos n)
    = a0 (pos n) + half * (a3 (pos n) * ca (a6 (pos n)) + a4 (pos n) * sa (a6 (pos n))) := by
  have h9 := pay9_at n
  rw [decide_eq_true h] at h9
  show k0_pay25 _ _ _ _ = _
  unfold pos ca sa wrap
  unfold pos at h9
  pointwise [k0_pay25, k0_pay10, k0_pay19, k0_pay23, k0_pay16, k0_pay17, k0_pay18, k0_pay13, k0_pay14]
  rw [h9]
  exact add_zero _

theorem plane_y1 : (planes a0 a1 a2 a3 a4 a5 a6).y1 (pos n)
    = a1 (pos n) - half * (a3 (pos n) * sa (a6 (pos n)) + a4 (pos n) * ca (a6 (pos n))) := by
  show k0_pay26 _ _ _ _ = _
  unfold pos ca sa wrap
  pointwise [k0_pay26, k0_pay11, k0_pay22, k0_pay20, k0_pay21, k0_pay16, k0_pay17, k0_pay18, k0_pay13, k0_pay14]
  rfl

theorem plane_y2 : (planes a0 a1 a2 a3 a4 a5 a6).y2 (pos n)
    = a1 (pos n) + half * (a3 (pos n) * sa (a6 (pos n)) + a4 (pos n) * ca (a6 (pos n))) := by
  show k0_pay27 _ _ _ _ = _
  unfold pos ca sa wrap
  pointwise [k0_pay27, k0_pay11, k0_pay22, k0_pay20, k0_pay21, k0_pay16, k0_pay17, k0_pay18, k0_pay13, k0_pay14]
  rfl

theorem plane_z1 : (planes a0 a1 a2 a3 a4 a5 a6).z1 (pos n)
    = a2 (pos n) - half * a5 (pos n) := by
  show k0_pay28 _ _  _ = _
  unfold pos
  pointwise [k0_pay28, k0_pay12, k0_pay15]

theorem plane_z2 : (planes a0 a1 a2 a3 a4 a5 a6).z2 (pos n)
    = a2 (pos n) + half * a5 (pos n) := by
  show k0_pay29 _ _  _ = _
  unfold pos
  pointwise [k0_pay29, k0_pay12, k0_pay15]

theorem plane_vol : (planes a0 a1 a2 a3 a4 a5 a6).vol (pos n)
    = ((planes a0 a1 a2 a3 a4 a5 a6).x2 (pos n) - (planes a0 a1 a2 a3 a4 a5 a6).x1 (pos n))
      * ((planes a0 a1 a2 a3 a4 a5 a6).y2 (pos n) - (planes a0 a1 a2 a3 a4 a5 a6).y1 (pos n))
      * ((planes a0 a1 a2 a3 a4 a5 a6).z2 (pos n) - (planes a0 a1 a2 a3 a4 a5 a6).z1 (pos n)) := rfl

end

variable (m : (ℓ : Loc nD τ sig) → Buf (Elt Ideal) ℓ) (c : Dev nD)

theorem fits : Fits (planes (V m c main_call0_v3) (V m c main_call0_v7) (V m c main_call0_v11) (V m c main_call0_v15) (V m c main_call0_v19)
    (V m c main_call0_v23) (V m c main_call0_v27)) (geo (rows (boxes m c))) := by
  rw [V_v3, V_v7, V_v11, V_v15, V_v19, V_v23, V_v27]
  have e : ∀ (k : ℕ) (hk : k < 7) (hs : S5000x7.Slices ![0, k] S5000x1) (n : Fin 5120) (h : n.val < 5000),
      shapeCast S8x640 (padded (col (boxes m c) k hs)) shapeCasts_S5120_S8x640 (pos n) = rows (boxes m c) ⟨n.val, h⟩ ⟨k, hk⟩ :=
    fun k hk hs n h => (plane_at _ n h).trans (col_at _ k hk hs _)
  have e0 := e 0 (by decide) slices_S5000x7_S5000x1_0_0
  have e1 := e 1 (by decide) slices_S5000x7_S5000x1_0_1
  have e2 := e 2 (by decide) slices_S5000x7_S5000x1_0_2
  have e3 := e 3 (by decide) slices_S5000x7_S5000x1_0_3
  have e4 := e 4 (by decide) slices_S5000x7_S5000x1_0_4
  have e5 := e 5 (by decide) slices_S5000x7_S5000x1_0_5
  have e6 := e 6 (by decide) slices_S5000x7_S5000x1_0_6
  generalize shapeCast S8x640 (padded (col (boxes m c) 0 slices_S5000x7_S5000x1_0_0)) shapeCasts_S5120_S8x640 = b0 at e0 ⊢
  generalize shapeCast S8x640 (padded (col (boxes m c) 1 slices_S5000x7_S5000x1_0_1)) shapeCasts_S5120_S8x640 = b1 at e1 ⊢
  generalize shapeCast S8x640 (padded (col (boxes m c) 2 slices_S5000x7_S5000x1_0_2)) shapeCasts_S5120_S8x640 = b2 at e2 ⊢
  generalize shapeCast S8x640 (padded (col (boxes m c) 3 slices_S5000x7_S5000x1_0_3)) shapeCasts_S5120_S8x640 = b3 at e3 ⊢
  generalize shapeCast S8x640 (padded (col (boxes m c) 4 slices_S5000x7_S5000x1_0_4)) shapeCasts_S5120_S8x640 = b4 at e4 ⊢
  generalize shapeCast S8x640 (padded (col (boxes m c) 5 slices_S5000x7_S5000x1_0_5)) shapeCasts_S5120_S8x640 = b5 at e5 ⊢
  generalize shapeCast S8x640 (padded (col (boxes m c) 6 slices_S5000x7_S5000x1_0_6)) shapeCasts_S5120_S8x640 = b6 at e6 ⊢
  have h1 : ∀ (n : Fin 5120) (h : n.val < 5000), (planes b0 b1 b2 b3 b4 b5 b6).x1 (pos n) = (geo (rows (boxes m c))).x1 ⟨n.val, h⟩ := fun n h => by
    rw [plane_x1 _ _ _ _ _ _ _ n h, e0 n h, e3 n h, e4 n h, e6 n h]; rfl
  have h2 : ∀ (n : Fin 5120) (h : n.val < 5000), (planes b0 b1 b2 b3 b4 b5 b6).x2 (pos n) = (geo (rows (boxes m c))).x2 ⟨n.val, h⟩ := fun n h => by
    rw [plane_x2 _ _ _ _ _ _ _ n h, e0 n h, e3 n h, e4 n h, e6 n h]; rfl
  have h3 : ∀ (n : Fin 5120) (h : n.val < 5000), (planes b0 b1 b2 b3 b4 b5 b6).y1 (pos n) = (geo (rows (boxes m c))).y1 ⟨n.val, h⟩ := fun n h => by
    rw [plane_y1 _ _ _ _ _ _ _ n, e1 n h, e3 n h, e4 n h, e6 n h]; rfl
  have h4 : ∀ (n : Fin 5120) (h : n.val < 5000), (planes b0 b1 b2 b3 b4 b5 b6).y2 (pos n) = (geo (rows (boxes m c))).y2 ⟨n.val, h⟩ := fun n h => by
    rw [plane_y2 _ _ _ _ _ _ _ n, e1 n h, e3 n h, e4 n h, e6 n h]; rfl
  have h5 : ∀ (n : Fin 5120) (h : n.val < 5000), (planes b0 b1 b2 b3 b4 b5 b6).z1 (pos n) = (geo (rows (boxes m c))).z1 ⟨n.val, h⟩ := fun n h => by
    rw [plane_z1 _ _ _ _ _ _ _ n, e2 n h, e5 n h]; rfl
  have h6 : ∀ (n : Fin 5120) (h : n.val < 5000), (planes b0 b1 b2 b3 b4 b5 b6).z2 (pos n) = (geo (rows (boxes m c))).z2 ⟨n.val, h⟩ := fun n h => by
    rw [plane_z2 _ _ _ _ _ _ _ n, e2 n h, e5 n h]; rfl
  exact ⟨h1, h2, h3, h4, h5, h6, fun n h => by rw [plane_vol, h1 n h, h2 n h, h3 n h, h4 n h, h5 n h, h6 n h]; rfl⟩

end Cert.Proof.K
-- ==== Proof.K.Loops.lean ====
/- The kernel's two loops meet their specifications: the clustering loop returns the state after its trips, the fusing
   loop writes the blocks of rows into the output. Each is by induction on the trips still to run. -/
module

public import proofs.«01_k».proof.Proof.K.Launch
public import proofs.«01_k».proof.Proof.K.Trips
public import Idealize.ShloMosaic.Lib.WritesUnit
public import Idealize.ShloMosaic.Lib.WordCmp

@[expose] public section

set_option maxRecDepth 65536

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

/-- The variants: the trips still to run. -/
abbrev 𝒱₀ : Variants := Variants.nat

/-- The clustering loop from state `s`, with at most `n` trips to run: it returns the state after them. -/
def cSpec (P : Planes F) (n : ℕ) (s : CState) : sWPT 𝕄 (IVec S8x640 32 × BitVec 32 × IVec S1x1 32) := do
  sWPT.consume (iprop(emp) : sProp 𝕄)
  pure (cRun P n s)

theorem cSpec_apply (P : Planes F) (n : ℕ) (s : CState) (K : CState → sProp 𝕄) :
    cSpec P n s K = iprop(emp ∗ K (cRun P n s)) := rfl

/-- The clustering loop meets its specification when at most `n` trips end it. -/
theorem cSpec_le (E : Set ℕ) (P : Planes F) :
    ∀ n (s : CState), ¬ cMore (cRun P n s) → ∀ K : CState → sProp 𝕄, cSpec P n s K
      ⊢ wp frame (wpE (defs₀ (F := F)) 𝒱₀ (c : Thread nD τ) (some n)) E
          (defs₀ (F := F) .tc 1 ⟨P.x1, P.x2, P.y1, P.y2, P.z1, P.z2, P.vol, s.1, s.2.1, s.2.2⟩) K := by
  intro n
  induction n with
  | zero =>
    rintro ⟨a, k, x⟩ hs K
    rw [cSpec_apply, show cRun P 0 (a, k, x) = (a, k, x) from rfl]
    show _ ⊢ wp frame (wpE (defs₀ (F := F)) 𝒱₀ (c : Thread nD τ) (some 0)) E
      (cc0_while1 P.x1 P.x2 P.y1 P.y2 P.z1 P.z2 P.vol a k x) K
    simp only [cc0_while1_eq_skeleton]; unfold cc0_while1_skel
    have htest : ¬Scalar.cmpi .slt (extractAt ![0, 0] x inpos_S1x1_p0_0) 5000#32 = 1#1 := hs
    simp only [htest, ↓reduceIte, Prog.pure_eq_ret]
    iintro ⟨-, Hk⟩
    rw [wp_ret]; imodintro
    iexact Hk
  | succ n ih =>
    rintro ⟨a, k, x⟩ hs K
    rw [cSpec_apply]
    show _ ⊢ wp frame (wpE (defs₀ (F := F)) 𝒱₀ (c : Thread nD τ) (some (n + 1))) E
      (cc0_while1 P.x1 P.x2 P.y1 P.y2 P.z1 P.z2 P.vol a k x) K
    simp only [cc0_while1_eq_skeleton]; unfold cc0_while1_skel
    by_cases hm : cMore (a, k, x)
    · have htest : Scalar.cmpi .slt (extractAt ![0, 0] x inpos_S1x1_p0_0) 5000#32 = 1#1 := hm
      have hr : cRun P (n + 1) (a, k, x) = cRun P n (cStep P (a, k, x)) := by rw [cRun, if_pos hm]
      rw [hr] at hs ⊢
      simp only [htest, ↓reduceIte, k0_part4_eq_skeleton]
      unfold k0_part4_skel
      simp only [Prog.lift, Prog.bind_op, Prog.bind_ret, Prog.pure_eq_ret]
      have hp : k0_pay6 P.x1 P.x2 P.y1 P.y2 P.z1 P.z2 P.vol a k (k0_pay48 P.x1 a x) (k0_pay49 P.x2 a x) (k0_pay50 P.y1 a x) (k0_pay51 P.y2 a x)
          (k0_pay52 P.z1 a x) (k0_pay53 P.z2 a x) (k0_pay54 P.x1 P.x2 P.y1 P.y2 a x) (k0_pay55 P.z1 P.z2 a x) = (cStep P (a, k, x)).1 := rfl
      have hq : k0_pay7 P.x1 P.x2 P.y1 P.y2 P.z1 P.z2 P.vol a k (k0_pay48 P.x1 a x) (k0_pay49 P.x2 a x) (k0_pay50 P.y1 a x) (k0_pay51 P.y2 a x)
          (k0_pay52 P.z1 a x) (k0_pay53 P.z2 a x) (k0_pay54 P.x1 P.x2 P.y1 P.y2 a x) (k0_pay55 P.z1 P.z2 a x) = (cStep P (a, k, x)).2.2 := rfl
      have hk : Scalar.addi k 1#32 = (cStep P (a, k, x)).2.1 := rfl
      rw [hp, hq, hk]
      generalize cStep P (a, k, x) = s' at hs ⊢
      have hcall := ih s'
      have hcall := hcall hs
      iintro ⟨He, Hk⟩
      iapply (wp_call_spec (defs := defs₀ (F := F)) (ℓ := (1 : (Λ₀ F).Label)) 𝒱₀ (c : Thread nD τ) (some (n + 1)) E (cSpec P n s') n
        (fun u hu => by cases hu; exact Nat.lt_succ_self n) hcall)
      rw [cSpec_apply]
      isplitl [He]; · iexact He
      rw [wp_ret]; imodintro
      iexact Hk
    · have htest : ¬Scalar.cmpi .slt (extractAt ![0, 0] x inpos_S1x1_p0_0) 5000#32 = 1#1 := hm
      have hr : cRun P (n + 1) (a, k, x) = (a, k, x) := by rw [cRun, if_neg hm]
      rw [hr]
      simp only [htest, ↓reduceIte, Prog.pure_eq_ret]
      iintro ⟨-, Hk⟩
      rw [wp_ret]; imodintro
      iexact Hk

/-- The offset of block `j`: row `128 * j`, column 0. -/
theorem off_eq (j : ℕ) (hj : j < 40) : k0_off1 (BitVec.ofNat 32 j) = ![128 * j, 0] := by
  have h : (BitVec.ofNat 32 j * 128#32).toNat = 128 * j := by
    rw [BitVec.toNat_mul, BitVec.toNat_ofNat, BitVec.toNat_ofNat]; omega
  show ![(BitVec.ofNat 32 j * 128#32).toNat, 0] = _
  rw [h]

/-- It lies inside the output. -/
theorem chk_of_lt (j : ℕ) (hj : j < 40) : k0_chk1 (BitVec.ofNat 32 j) := by
  unfold k0_chk1
  rw [off_eq j hj]
  intro a
  match a with
  | ⟨0, _⟩ => show 128 * j + 128 ≤ 5120; omega
  | ⟨1, _⟩ => show 0 + 16 ≤ 16; omega

/-- The fusing loop's test at block `j`: clusters are left. -/
theorem more_iff (w : BitVec 32) (hw : w.toNat ≤ 5000) (j : ℕ) (hj : j ≤ 40) :
    Scalar.cmpi .slt (Scalar.muli (BitVec.ofNat 32 j) 128#32) w = 1#1 ↔ 128 * j < w.toNat := by
  have h : (BitVec.ofNat 32 j * 128#32).toNat = 128 * j := by
    rw [BitVec.toNat_mul, BitVec.toNat_ofNat, BitVec.toNat_ofNat]; omega
  show BitVec.ofBool ((BitVec.ofNat 32 j * 128#32).slt w) = 1#1 ↔ _
  have hs : (BitVec.ofNat 32 j * 128#32).slt w = decide (128 * j < w.toNat) := by
    rw [BitVec.slt, BitVec.toInt_eq_toNat_of_lt (by rw [h]; omega), BitVec.toInt_eq_toNat_of_lt (by omega), h]
    refine decide_eq_decide.mpr ?_
    omega
  rw [hs]
  by_cases hlt : 128 * j < w.toNat <;> simp [hlt]

/-- Storing block `j` over the first `j` blocks leaves the first `j + 1`. -/
theorem store_block (R : Rows F) (j : ℕ) (hj : j < 40) (inb) :
    ((Memref.whole cc0_stg11_0).access (Rect.unit (s := S5120x16) (k0_off1 (BitVec.ofNat 32 j)) S128x16.size inb) : View sig .tc _ _ _).write (Elt F)
      (outAfter R j) (block R (BitVec.ofNat 32 j)) Finset.univ = outAfter R (j + 1) := by
  funext y
  have h := View.read_writes_cons_rows (Val := Elt F) (d := ![5120, 16]) (v := (Memref.whole cc0_stg11_0 : Memref sig .tc _ _ _).view) (f := outAfter R j) (o := 128 * j) (W := 128)
    inb (block R (BitVec.ofNat 32 j)) [] y (off_eq j hj) rfl rfl
  refine Eq.trans (b := (Memref.whole cc0_stg11_0 : Memref sig .tc _ _ _).view.read (Elt F) _ y) rfl (h.trans ?_)
  have hy : (y 0).val < 5120 := (y 0).isLt
  by_cases hin : 128 * j ≤ (y 0).val ∧ (y 0).val < 128 * j + 128
  · rw [dif_pos hin]
    have hd : (y 0).val / 128 = j := by omega
    unfold outAfter
    rw [if_pos (by omega), hd]
    refine congrArg (block R (BitVec.ofNat 32 j)) (funext fun a => Fin.ext ?_)
    match a with
    | ⟨0, _⟩ => show (y 0).val - 128 * j = (y 0).val % 128; omega
    | ⟨1, _⟩ => show (y 1).val - 0 = (y 1).val; omega
  · rw [dif_neg hin]
    show outAfter R j y = _
    unfold outAfter
    by_cases h1 : (y 0).val < 128 * j
    · rw [if_pos h1, if_pos (by omega)]
    · rw [if_neg h1, if_neg (by omega)]

/-- A block of rows, spelled out. -/
theorem block_def (R : Rows F) (cb : BitVec 32) : block R cb = k0_pay75 (iota .tc S128x16 32 [1] iota_S128x16_d1_w32) (k0_pay59 R.seg k0_pay43 R.w cb)
    (k0_pay62 R.seg k0_pay43 R.sc cb)
    (k0_pay65 R.sin R.cos (k0_pay57 R.seg k0_pay43 R.sc cb)
      (k0_pay63 R.seg k0_pay43 R.sc (iota .tc S1x5120 32 [1] iota_S1x5120_d1_w32) R.r cb)
      (k0_pay64 R.seg k0_pay43 R.sc (iota .tc S1x5120 32 [1] iota_S1x5120_d1_w32) R.r cb))
    (k0_pay67 (k0_pay60 R.seg k0_pay43 R.w cb) (k0_pay61 R.seg k0_pay43 R.sc R.w cb))
    (k0_pay68 (k0_pay60 R.seg k0_pay43 R.w cb) (k0_pay61 R.seg k0_pay43 R.sc R.w cb))
    (k0_pay69 (k0_pay60 R.seg k0_pay43 R.w cb) (k0_pay61 R.seg k0_pay43 R.sc R.w cb))
    (k0_pay70 (k0_pay60 R.seg k0_pay43 R.w cb) (k0_pay61 R.seg k0_pay43 R.sc R.w cb))
    (k0_pay71 (k0_pay60 R.seg k0_pay43 R.w cb) (k0_pay61 R.seg k0_pay43 R.sc R.w cb))
    (k0_pay72 (k0_pay60 R.seg k0_pay43 R.w cb) (k0_pay61 R.seg k0_pay43 R.sc R.w cb))
    (k0_pay73 (F := F)) (k0_pay74 (iota .tc S128x16 32 [1] iota_S128x16_d1_w32)) := rfl

/-- The output buffer held at contents `fo`. -/
def heldOut (fo : Buf (Elt F) (((c : Dev nD) : Thread nD τ).loc cc0_stg11_0)) : sProp 𝕄 :=
  iprop((((c : Thread nD τ).loc cc0_stg11_0) ↦{fullShare} fo))

/-- The fusing loop from block `j`: holding the output with the first `j` blocks written, it returns some counter and
    the output with every block written. -/
def fSpec (R : Rows F) (j : ℕ) : sWPT 𝕄 (BitVec 32) := do
  sWPT.consume (heldOut c (outAfter R j))
  let r ← sWPT.arbitrary
  sWPT.produce (heldOut c (outAfter R (blocks R)))
  pure r

theorem fSpec_apply (R : Rows F) (j : ℕ) (K : BitVec 32 → sProp 𝕄) :
    fSpec c R j K = iprop(heldOut c (outAfter R j) ∗ ∀ r : BitVec 32, (heldOut c (outAfter R (blocks R)) -∗ K r)) := rfl

/-- The fusing loop meets its specification when there are at most 5000 clusters. -/
theorem fSpec_le (E : Set ℕ) (R : Rows F) (hn : R.nseg.toNat ≤ 5000) :
    ∀ n j, j + n = blocks R → ∀ K : BitVec 32 → sProp 𝕄, fSpec c R j K
      ⊢ wp frame (wpE (defs₀ (F := F)) 𝒱₀ (c : Thread nD τ) (some n)) E
          (defs₀ (F := F) .tc 2 ⟨R.nseg, R.seg, k0_pay43, R.sc, R.w, iota .tc S1x5120 32 [1] iota_S1x5120_d1_w32, R.r, R.sin, R.cos,
            iota .tc S128x16 32 [1] iota_S128x16_d1_w32, Memref.whole cc0_stg11_0, Memref.isWhole_whole _, BitVec.ofNat 32 j⟩) K := by
  have hb : blocks R ≤ 40 := by unfold blocks; omega
  intro n
  induction n with
  | zero =>
    intro j hj K
    rw [fSpec_apply]
    show _ ⊢ wp frame (wpE (defs₀ (F := F)) 𝒱₀ (c : Thread nD τ) (some 0)) E
      (cc0_while2 R.nseg R.seg k0_pay43 R.sc R.w (iota .tc S1x5120 32 [1] iota_S1x5120_d1_w32) R.r R.sin R.cos
            (iota .tc S128x16 32 [1] iota_S128x16_d1_w32) (Memref.whole cc0_stg11_0) (Memref.isWhole_whole _) (BitVec.ofNat 32 j)) K
    simp only [cc0_while2_eq_skeleton]; unfold cc0_while2_skel
    have htest : ¬Scalar.cmpi .slt (Scalar.muli (BitVec.ofNat 32 j) 128#32) R.nseg = 1#1 := by
      rw [more_iff _ hn j (by omega)]; unfold blocks at hj; omega
    simp only [htest, ↓reduceIte, Prog.pure_eq_ret]
    iintro ⟨H, Hk⟩
    rw [wp_ret]; imodintro
    have e : j = blocks R := by omega
    rw [e]
    iapply Hk
    iexact H
  | succ n ih =>
    intro j hj K
    rw [fSpec_apply]
    show _ ⊢ wp frame (wpE (defs₀ (F := F)) 𝒱₀ (c : Thread nD τ) (some (n + 1))) E
      (cc0_while2 R.nseg R.seg k0_pay43 R.sc R.w (iota .tc S1x5120 32 [1] iota_S1x5120_d1_w32) R.r R.sin R.cos
            (iota .tc S128x16 32 [1] iota_S128x16_d1_w32) (Memref.whole cc0_stg11_0) (Memref.isWhole_whole _) (BitVec.ofNat 32 j)) K
    simp only [cc0_while2_eq_skeleton]; unfold cc0_while2_skel
    have htest : Scalar.cmpi .slt (Scalar.muli (BitVec.ofNat 32 j) 128#32) R.nseg = 1#1 := by
      rw [more_iff _ hn j (by omega)]; unfold blocks at hj; omega
    have hj4 : j < 40 := by omega
    simp only [htest, ↓reduceIte, k0_part5_eq_skeleton, k0_part6_eq_skeleton, k0_part7_eq_skeleton]
    unfold k0_part5_skel k0_part6_skel k0_part7_skel
    simp only [Prog.lift, Prog.bind_op, Prog.bind_ret, Prog.pure_eq_ret]
    unfold heldOut
    iintro ⟨Ho, Hk⟩
    iapply (wp_assume 𝒱₀ (c : Thread nD τ) (some (n + 1)) E (chk_of_lt j hj4))
    iapply (wp_load 𝒱₀ (c : Thread nD τ) (some (n + 1)) E (m := Memref.whole cc0_stg11_0) (Finset.subset_univ _)) $$ Ho; iintro Ho
    iapply (wp_store 𝒱₀ (c : Thread nD τ) (some (n + 1)) E (m := Memref.whole cc0_stg11_0) (r := Rect.unit (s := S5120x16) (k0_off1 (BitVec.ofNat 32 j)) S128x16.size (k0_off1_inb _ (chk_of_lt j hj4)))
      (Mk := Finset.univ) (Finset.subset_univ _)) $$ Ho; iintro Ho
    rw [← block_def, store_block R j hj4]
    have hcall := ih (j + 1) (by omega)
    have hadd : Scalar.addi (BitVec.ofNat 32 j) 1#32 = BitVec.ofNat 32 (j + 1) := by
      show BitVec.ofNat 32 j + BitVec.ofNat 32 1 = _
      rw [← BitVec.ofNat_add]
    rw [hadd]
    iapply (wp_call_spec (defs := defs₀ (F := F)) (ℓ := (2 : (Λ₀ F).Label)) 𝒱₀ (c : Thread nD τ) (some (n + 1)) E (fSpec c R (j + 1)) n
        (fun u hu => by cases hu; exact Nat.lt_succ_self n) hcall)
    rw [fSpec_apply]
    unfold heldOut
    isplitl [Ho]; · iexact Ho
    iintro %r Ho
    rw [wp_ret]; imodintro
    iapply Hk
    iexact Ho

end Cert.Proof.K

end
-- ==== Proof.K.Body.lean ====
/- The kernel's body at the region's one point: it reads the arrays, runs the clustering loop, lays the cluster numbers in
   the scratch row, clears the output and runs the fusing loop; it leaves the output at `kernelOut` of the arrays. -/
module

public import proofs.«01_k».proof.Proof.K.Loops
public import Idealize.ShloMosaic.Lib.PointwiseCore

@[expose] public section

set_option maxRecDepth 65536

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight pieces of the row of cluster numbers, the last one stored first. -/
def segPieces (F : FTy → Type) (a : IVec S8x640 32) : List (View.Piece (Elt F) S1x5120 .i32) :=
  [⟨Rect.unit (s := S1x5120) ![0, 4480] S1x640.size inb_S1x5120_S1x640_0_4480, k0_pay42 (k0_pay33 a)⟩,
   ⟨Rect.unit (s := S1x5120) ![0, 3840] S1x640.size inb_S1x5120_S1x640_0_3840, k0_pay41 (k0_pay33 a)⟩,
   ⟨Rect.unit (s := S1x5120) ![0, 3200] S1x640.size inb_S1x5120_S1x640_0_3200, k0_pay40 (k0_pay33 a)⟩,
   ⟨Rect.unit (s := S1x5120) ![0, 2560] S1x640.size inb_S1x5120_S1x640_0_2560, k0_pay39 (k0_pay33 a)⟩,
   ⟨Rect.unit (s := S1x5120) ![0, 1920] S1x640.size inb_S1x5120_S1x640_0_1920, k0_pay38 (k0_pay33 a)⟩,
   ⟨Rect.unit (s := S1x5120) ![0, 1280] S1x640.size inb_S1x5120_S1x640_0_1280, k0_pay37 (k0_pay36 a)⟩,
   ⟨Rect.unit (s := S1x5120) ![0, 640] S1x640.size inb_S1x5120_S1x640_0_640, k0_pay35 a⟩,
   ⟨Rect.unit (s := S1x5120) ![0, 0] S1x640.size inb_S1x5120_S1x640_0_0, k0_pay34 a⟩]

theorem segRow_at (a : IVec S8x640 32) (y : S1x5120.Idx) (r : Fin 8) (l : Fin 640) (h : (y 1).val = 640 * r.val + l.val) :
    segRow a y = k0_pay33 a (ix2 r l) := by
  unfold segRow
  have e1 : (⟨(y 1).val / 640, by have h : (y 1).val < 5120 := (y 1).isLt; omega⟩ : Fin 8) = r := Fin.ext (by show (y 1).val / 640 = r.val; omega)
  have e2 : (⟨(y 1).val % 640, Nat.mod_lt _ (by decide)⟩ : Fin 640) = l := Fin.ext (by show (y 1).val % 640 = l.val; omega)
  rw [e1, e2]

theorem pay42_at (v : IVec S8x640 32) (k : S1x640.Idx) : k0_pay42 v k = v (ix2 7 (k 1)) := by
  idx_vars k
  pointwise [k0_pay42]
theorem pay41_at (v : IVec S8x640 32) (k : S1x640.Idx) : k0_pay41 v k = v (ix2 6 (k 1)) := by
  idx_vars k
  pointwise [k0_pay41]
theorem pay40_at (v : IVec S8x640 32) (k : S1x640.Idx) : k0_pay40 v k = v (ix2 5 (k 1)) := by
  idx_vars k
  pointwise [k0_pay40]
theorem pay39_at (v : IVec S8x640 32) (k : S1x640.Idx) : k0_pay39 v k = v (ix2 4 (k 1)) := by
  idx_vars k
  pointwise [k0_pay39]
theorem pay38_at (v : IVec S8x640 32) (k : S1x640.Idx) : k0_pay38 v k = v (ix2 3 (k 1)) := by
  idx_vars k
  pointwise [k0_pay38]
theorem pay37_at (a : IVec S8x640 32) (k : S1x640.Idx) : k0_pay37 (k0_pay36 a) k = k0_pay33 a (ix2 2 (k 1)) := by
  idx_vars k
  pointwise [k0_pay37, k0_pay36]
theorem pay35_at (a : IVec S8x640 32) (k : S1x640.Idx) : k0_pay35 a k = k0_pay33 a (ix2 1 (k 1)) := by
  idx_vars k
  pointwise [k0_pay35]
theorem pay34_at (a : IVec S8x640 32) (k : S1x640.Idx) : k0_pay34 a k = k0_pay33 a (ix2 0 (k 1)) := by
  idx_vars k
  pointwise [k0_pay34]

/-- A piece at offset `640 * r` lies where the row of cluster numbers reads row `r`. -/
theorem piece_at (a : IVec S8x640 32) (o : ℕ) (r : Fin 8) (ho : o = 640 * r.val) (inb) (x : S1x640.Idx) :
    segRow a ((Rect.unit (s := S1x5120) ![0, o] S1x640.size inb).emb x) = k0_pay33 a (ix2 r (x 1)) := by
  refine segRow_at a _ r (x 1) ?_
  show o + 1 * (x 1).val = 640 * r.val + (x 1).val
  omega

set_option maxHeartbeats 4000000 in
/-- The eight stores leave the row of cluster numbers, whatever the row held before. -/
theorem seg_writes (a : IVec S8x640 32) (f : (cc0_scratch0 : Ref sig .tc).ty.Contents (Elt F)) :
    (Memref.whole cc0_scratch0 : Memref sig .tc _ _ _).view.writes (Elt F) f (segPieces F a) = segRow a := by
  funext y
  refine View.read_writes_apply_of_pieces (Val := Elt F) (v := (Memref.whole cc0_scratch0 : Memref sig .tc _ _ _).view) (f := f) (segRow a) (segPieces F a) ?_ y ?_
  · unfold segPieces
    simp only [List.forall_mem_cons]
    refine ⟨?_, ?_, ?_, ?_, ?_, ?_, ?_, ?_, ?_⟩
    · exact fun x => (pay42_at _ x).trans (piece_at a 4480 7 (by decide) _ x).symm
    · exact fun x => (pay41_at _ x).trans (piece_at a 3840 6 (by decide) _ x).symm
    · exact fun x => (pay40_at _ x).trans (piece_at a 3200 5 (by decide) _ x).symm
    · exact fun x => (pay39_at _ x).trans (piece_at a 2560 4 (by decide) _ x).symm
    · exact fun x => (pay38_at _ x).trans (piece_at a 1920 3 (by decide) _ x).symm
    · exact fun x => (pay37_at _ x).trans (piece_at a 1280 2 (by decide) _ x).symm
    · exact fun x => (pay35_at _ x).trans (piece_at a 640 1 (by decide) _ x).symm
    · exact fun x => (pay34_at _ x).trans (piece_at a 0 0 (by decide) _ x).symm
    · intro p hp; exact absurd hp List.not_mem_nil
  · have h0 : (y 0).val < 1 := (y 0).isLt
    have h1 : (y 1).val < 5120 := (y 1).isLt
    have key : ∀ (o : ℕ) (inb), o ≤ (y 1).val → (y 1).val < o + 640 → y ∈ (Rect.unit (s := S1x5120) ![0, o] S1x640.size inb).set := by
      intro o inb hl hu
      rw [Rect.mem_set_unit]
      intro a
      match a with
      | ⟨0, _⟩ => exact ⟨Nat.zero_le _, by show (y 0).val < 0 + 1; omega⟩
      | ⟨1, _⟩ => exact ⟨hl, hu⟩
    unfold segPieces
    simp only [List.exists_mem_cons_iff]
    by_cases c7 : 4480 ≤ (y 1).val
    · exact Or.inl (key _ _ c7 (by omega))
    refine Or.inr ?_
    by_cases c6 : 3840 ≤ (y 1).val
    · exact Or.inl (key _ _ c6 (by omega))
    refine Or.inr ?_
    by_cases c5 : 3200 ≤ (y 1).val
    · exact Or.inl (key _ _ c5 (by omega))
    refine Or.inr ?_
    by_cases c4 : 2560 ≤ (y 1).val
    · exact Or.inl (key _ _ c4 (by omega))
    refine Or.inr ?_
    by_cases c3 : 1920 ≤ (y 1).val
    · exact Or.inl (key _ _ c3 (by omega))
    refine Or.inr ?_
    by_cases c2 : 1280 ≤ (y 1).val
    · exact Or.inl (key _ _ c2 (by omega))
    refine Or.inr ?_
    by_cases c1 : 640 ≤ (y 1).val
    · exact Or.inl (key _ _ c1 (by omega))
    exact Or.inr (Or.inl (key _ _ (by omega) (by omega)))

end Cert.Proof.K

end
-- ==== Proof.K.Run.lean ====
/- The kernel's run: every execution ends, with the output array of the region at `kernelOut` of the arrays the host lines
   before it prepare, and every semaphore at zero. -/
module

public import proofs.«01_k».proof.Proof.K.Body

@[expose] public section

set_option maxRecDepth 65536

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The clustering's final state on core `c`. -/
def finalState (c : Dev nD) : CState :=
  clustering (planes (F := F) (V m c main_call0_v3) (V m c main_call0_v7) (V m c main_call0_v11) (V m c main_call0_v15) (V m c main_call0_v19)
    (V m c main_call0_v23) (V m c main_call0_v27))

/-- The output array on core `c`. -/
def finalOut (c : Dev nD) : FVec F S5120x16 .f32 :=
  kernelOut (V m c main_call0_v3) (V m c main_call0_v7) (V m c main_call0_v11) (V m c main_call0_v15) (V m c main_call0_v19)
    (V m c main_call0_v23) (V m c main_call0_v27) (V m c main_call0_v33) (V m c main_call0_v35) (V m c main_call0_v58)

/-- The region's proof data: the arrays as the region finds them; the inputs' buffers at their blocks after the body and
    the output's at `finalOut`. -/
def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => finalOut m c
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

/-! Each window is its whole array: what the body finds in an input's buffer is the array. -/

theorem emb_0 (t : Fin (cfg0 (F := F)).N) (y) : (((cfg0 (F := F)).win 0).blk t).view.emb y = y := by
  rw [fin_N0 t]
  funext a
  exact Fin.ext (Window.rect_emb_val_of_index_zero win0_0 t0_0 a (by fin_cases a <;> rfl) y)

theorem emb_1 (t : Fin (cfg0 (F := F)).N) (y) : (((cfg0 (F := F)).win 1).blk t).view.emb y = y := by
  rw [fin_N0 t]
  funext a
  exact Fin.ext (Window.rect_emb_val_of_index_zero win0_1 t0_0 a (by fin_cases a <;> rfl) y)

theorem emb_2 (t : Fin (cfg0 (F := F)).N) (y) : (((cfg0 (F := F)).win 2).blk t).view.emb y = y := by
  rw [fin_N0 t]
  funext a
  exact Fin.ext (Window.rect_emb_val_of_index_zero win0_2 t0_0 a (by fin_cases a <;> rfl) y)

theorem emb_3 (t : Fin (cfg0 (F := F)).N) (y) : (((cfg0 (F := F)).win 3).blk t).view.emb y = y := by
  rw [fin_N0 t]
  funext a
  exact Fin.ext (Window.rect_emb_val_of_index_zero win0_3 t0_0 a (by fin_cases a <;> rfl) y)

theorem emb_4 (t : Fin (cfg0 (F := F)).N) (y) : (((cfg0 (F := F)).win 4).blk t).view.emb y = y := by
  rw [fin_N0 t]
  funext a
  exact Fin.ext (Window.rect_emb_val_of_index_zero win0_4 t0_0 a (by fin_cases a <;> rfl) y)

theorem emb_5 (t : Fin (cfg0 (F := F)).N) (y) : (((cfg0 (F := F)).win 5).blk t).view.emb y = y := by
  rw [fin_N0 t]
  funext a
  exact Fin.ext (Window.rect_emb_val_of_index_zero win0_5 t0_0 a (by fin_cases a <;> rfl) y)

theorem emb_6 (t : Fin (cfg0 (F := F)).N) (y) : (((cfg0 (F := F)).win 6).blk t).view.emb y = y := by
  rw [fin_N0 t]
  funext a
  exact Fin.ext (Window.rect_emb_val_of_index_zero win0_6 t0_0 a (by fin_cases a <;> rfl) y)

theorem emb_7 (t : Fin (cfg0 (F := F)).N) (y) : (((cfg0 (F := F)).win 7).blk t).view.emb y = y := by
  rw [fin_N0 t]
  funext a
  exact Fin.ext (Window.rect_emb_val_of_index_zero win0_7 t0_0 a (by fin_cases a <;> rfl) y)

theorem emb_8 (t : Fin (cfg0 (F := F)).N) (y) : (((cfg0 (F := F)).win 8).blk t).view.emb y = y := by
  rw [fin_N0 t]
  funext a
  exact Fin.ext (Window.rect_emb_val_of_index_zero win0_8 t0_0 a (by fin_cases a <;> rfl) y)

theorem emb_9 (t : Fin (cfg0 (F := F)).N) (y) : (((cfg0 (F := F)).win 9).blk t).view.emb y = y := by
  rw [fin_N0 t]
  funext a
  exact Fin.ext (Window.rect_emb_val_of_index_zero win0_9 t0_0 a (by fin_cases a <;> rfl) y)

theorem emb_10 (t : Fin (cfg0 (F := F)).N) (y) : (((cfg0 (F := F)).win 10).blk t).view.emb y = y := by
  rw [fin_N0 t]
  funext a
  exact Fin.ext (Window.rect_emb_val_of_index_zero win0_10 t0_0 a (by fin_cases a <;> rfl) y)

theorem emb_11 (t : Fin (cfg0 (F := F)).N) (y) : (((cfg0 (F := F)).win 11).blk t).view.emb y = y := by
  rw [fin_N0 t]
  funext a
  exact Fin.ext (Window.rect_emb_val_of_index_zero win0_11 t0_0 a (by fin_cases a <;> rfl) y)

theorem blk_0 (c : Dev nD) (t : Fin (cfg0 (F := F)).N) : blockAt m c 0 t = V m c main_call0_v3 := by
  funext y
  exact (View.read_apply _ _).trans ((cast_eq _ _).trans (congrArg (V m c main_call0_v3) (emb_0 t y)))

theorem before_0 (c : Dev nD) (t : Fin (cfg0 (F := F)).N) (d) : (dats m 0 c).before 0 t d = V m c main_call0_v3 := by
  refine Eq.trans ?_ (blk_0 m c t)
  unfold Dat.before; rw [if_pos (fetch0_0 t)]; rfl

theorem blk_1 (c : Dev nD) (t : Fin (cfg0 (F := F)).N) : blockAt m c 1 t = V m c main_call0_v7 := by
  funext y
  exact (View.read_apply _ _).trans ((cast_eq _ _).trans (congrArg (V m c main_call0_v7) (emb_1 t y)))

theorem before_1 (c : Dev nD) (t : Fin (cfg0 (F := F)).N) (d) : (dats m 0 c).before 1 t d = V m c main_call0_v7 := by
  refine Eq.trans ?_ (blk_1 m c t)
  unfold Dat.before; rw [if_pos (fetch0_1 t)]; rfl

theorem blk_2 (c : Dev nD) (t : Fin (cfg0 (F := F)).N) : blockAt m c 2 t = V m c main_call0_v11 := by
  funext y
  exact (View.read_apply _ _).trans ((cast_eq _ _).trans (congrArg (V m c main_call0_v11) (emb_2 t y)))

theorem before_2 (c : Dev nD) (t : Fin (cfg0 (F := F)).N) (d) : (dats m 0 c).before 2 t d = V m c main_call0_v11 := by
  refine Eq.trans ?_ (blk_2 m c t)
  unfold Dat.before; rw [if_pos (fetch0_2 t)]; rfl

theorem blk_3 (c : Dev nD) (t : Fin (cfg0 (F := F)).N) : blockAt m c 3 t = V m c main_call0_v15 := by
  funext y
  exact (View.read_apply _ _).trans ((cast_eq _ _).trans (congrArg (V m c main_call0_v15) (emb_3 t y)))

theorem before_3 (c : Dev nD) (t : Fin (cfg0 (F := F)).N) (d) : (dats m 0 c).before 3 t d = V m c main_call0_v15 := by
  refine Eq.trans ?_ (blk_3 m c t)
  unfold Dat.before; rw [if_pos (fetch0_3 t)]; rfl

theorem blk_4 (c : Dev nD) (t : Fin (cfg0 (F := F)).N) : blockAt m c 4 t = V m c main_call0_v19 := by
  funext y
  exact (View.read_apply _ _).trans ((cast_eq _ _).trans (congrArg (V m c main_call0_v19) (emb_4 t y)))

theorem before_4 (c : Dev nD) (t : Fin (cfg0 (F := F)).N) (d) : (dats m 0 c).before 4 t d = V m c main_call0_v19 := by
  refine Eq.trans ?_ (blk_4 m c t)
  unfold Dat.before; rw [if_pos (fetch0_4 t)]; rfl

theorem blk_5 (c : Dev nD) (t : Fin (cfg0 (F := F)).N) : blockAt m c 5 t = V m c main_call0_v23 := by
  funext y
  exact (View.read_apply _ _).trans ((cast_eq _ _).trans (congrArg (V m c main_call0_v23) (emb_5 t y)))

theorem before_5 (c : Dev nD) (t : Fin (cfg0 (F := F)).N) (d) : (dats m 0 c).before 5 t d = V m c main_call0_v23 := by
  refine Eq.trans ?_ (blk_5 m c t)
  unfold Dat.before; rw [if_pos (fetch0_5 t)]; rfl

theorem blk_6 (c : Dev nD) (t : Fin (cfg0 (F := F)).N) : blockAt m c 6 t = V m c main_call0_v27 := by
  funext y
  exact (View.read_apply _ _).trans ((cast_eq _ _).trans (congrArg (V m c main_call0_v27) (emb_6 t y)))

theorem before_6 (c : Dev nD) (t : Fin (cfg0 (F := F)).N) (d) : (dats m 0 c).before 6 t d = V m c main_call0_v27 := by
  refine Eq.trans ?_ (blk_6 m c t)
  unfold Dat.before; rw [if_pos (fetch0_6 t)]; rfl

theorem blk_7 (c : Dev nD) (t : Fin (cfg0 (F := F)).N) : blockAt m c 7 t = V m c main_call0_v29 := by
  funext y
  exact (View.read_apply _ _).trans ((cast_eq _ _).trans (congrArg (V m c main_call0_v29) (emb_7 t y)))

theorem before_7 (c : Dev nD) (t : Fin (cfg0 (F := F)).N) (d) : (dats m 0 c).before 7 t d = V m c main_call0_v29 := by
  refine Eq.trans ?_ (blk_7 m c t)
  unfold Dat.before; rw [if_pos (fetch0_7 t)]; rfl

theorem blk_8 (c : Dev nD) (t : Fin (cfg0 (F := F)).N) : blockAt m c 8 t = V m c main_call0_v33 := by
  funext y
  exact (View.read_apply _ _).trans ((cast_eq _ _).trans (congrArg (V m c main_call0_v33) (emb_8 t y)))

theorem before_8 (c : Dev nD) (t : Fin (cfg0 (F := F)).N) (d) : (dats m 0 c).before 8 t d = V m c main_call0_v33 := by
  refine Eq.trans ?_ (blk_8 m c t)
  unfold Dat.before; rw [if_pos (fetch0_8 t)]; rfl

theorem blk_9 (c : Dev nD) (t : Fin (cfg0 (F := F)).N) : blockAt m c 9 t = V m c main_call0_v35 := by
  funext y
  exact (View.read_apply _ _).trans ((cast_eq _ _).trans (congrArg (V m c main_call0_v35) (emb_9 t y)))

theorem before_9 (c : Dev nD) (t : Fin (cfg0 (F := F)).N) (d) : (dats m 0 c).before 9 t d = V m c main_call0_v35 := by
  refine Eq.trans ?_ (blk_9 m c t)
  unfold Dat.before; rw [if_pos (fetch0_9 t)]; rfl

theorem blk_10 (c : Dev nD) (t : Fin (cfg0 (F := F)).N) : blockAt m c 10 t = V m c main_call0_v58 := by
  funext y
  exact (View.read_apply _ _).trans ((cast_eq _ _).trans (congrArg (V m c main_call0_v58) (emb_10 t y)))

theorem before_10 (c : Dev nD) (t : Fin (cfg0 (F := F)).N) (d) : (dats m 0 c).before 10 t d = V m c main_call0_v58 := by
  refine Eq.trans ?_ (blk_10 m c t)
  unfold Dat.before; rw [if_pos (fetch0_10 t)]; rfl

/-- The output array after the region. -/
theorem arrAt_11 (c : Dev nD) : (dats m 0 c).arrAt 11 (cfg0 (F := F)).N = finalOut m c := by
  funext y
  have h := (dats m 0 c).arrAt_emb_eq_flushed 11 (fun t t' _ _ hne => absurd ((fin_N0 t).trans (fin_N0 t').symm) hne) t0_0 (flush0_11 t0_0) y
  exact (congrArg ((dats m 0 c).arrAt 11 (cfg0 (F := F)).N) (emb_11 (F := F) t0_0 y)).symm.trans (h.trans ((cast_eq _ _).trans rfl))

end Cert.Proof.K

end
-- ==== Proof.K.Kernel.lean ====
/- The kernel's body on whole buffers: from its inputs' buffers at some arrays it ends with the output's buffer at
   `kernelOut` of them, when the clustering ends. -/
module

public import proofs.«01_k».proof.Proof.K.Body

@[expose] public section

set_option maxRecDepth 65536

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zero_off : (![0, 0] : Fin 2 → ℕ) = fun _ => 0 := by funext a; fin_cases a <;> rfl

/-- The output cleared is the output with no block written. -/
theorem cleared (R : Rows F) : k0_pay5 (F := F) = outAfter R 0 := by
  funext y; unfold outAfter; rw [if_neg (by omega)]

set_option maxHeartbeats 4000000 in
theorem kernel_run (c : Dev nD) (x0 : FVec F S8x640 .f32) (x1 : FVec F S8x640 .f32) (x2 : FVec F S8x640 .f32) (x3 : FVec F S8x640 .f32) (x4 : FVec F S8x640 .f32) (x5 : FVec F S8x640 .f32) (x6 : FVec F S8x640 .f32) (x8 : FVec F S1x5120 .f32) (x9 : FVec F S1x5120 .f32) (x10 : FVec F S5120x8 .f32)
    (fo : FVec F S5120x16 .f32) (fs : IVec S1x5120 32)
    (hend : ¬ cMore (clustering (planes x0 x1 x2 x3 x4 x5 x6))) (hn : (clustering (planes x0 x1 x2 x3 x4 x5 x6)).2.1.toNat ≤ 5000)
    (E : Set ℕ) (K : PUnit → sProp 𝕄) :
    iprop((((c : Thread nD τ).loc cc0_stg0_0) ↦{fullShare} x0) ∗ (((c : Thread nD τ).loc cc0_stg1_0) ↦{fullShare} x1) ∗ (((c : Thread nD τ).loc cc0_stg2_0) ↦{fullShare} x2) ∗ (((c : Thread nD τ).loc cc0_stg3_0) ↦{fullShare} x3) ∗ (((c : Thread nD τ).loc cc0_stg4_0) ↦{fullShare} x4) ∗ (((c : Thread nD τ).loc cc0_stg5_0) ↦{fullShare} x5) ∗ (((c : Thread nD τ).loc cc0_stg6_0) ↦{fullShare} x6) ∗ (((c : Thread nD τ).loc cc0_stg8_0) ↦{fullShare} x8) ∗ (((c : Thread nD τ).loc cc0_stg9_0) ↦{fullShare} x9) ∗ (((c : Thread nD τ).loc cc0_stg10_0) ↦{fullShare} x10) ∗ (((c : Thread nD τ).loc cc0_stg11_0) ↦{fullShare} fo) ∗ (((c : Thread nD τ).loc cc0_scratch0) ↦{fullShare} fs)
        ∗ (iprop((((c : Thread nD τ).loc cc0_stg0_0) ↦{fullShare} x0) ∗ (((c : Thread nD τ).loc cc0_stg1_0) ↦{fullShare} x1) ∗ (((c : Thread nD τ).loc cc0_stg2_0) ↦{fullShare} x2) ∗ (((c : Thread nD τ).loc cc0_stg3_0) ↦{fullShare} x3) ∗ (((c : Thread nD τ).loc cc0_stg4_0) ↦{fullShare} x4) ∗ (((c : Thread nD τ).loc cc0_stg5_0) ↦{fullShare} x5) ∗ (((c : Thread nD τ).loc cc0_stg6_0) ↦{fullShare} x6) ∗ (((c : Thread nD τ).loc cc0_stg8_0) ↦{fullShare} x8) ∗ (((c : Thread nD τ).loc cc0_stg9_0) ↦{fullShare} x9) ∗ (((c : Thread nD τ).loc cc0_stg10_0) ↦{fullShare} x10) ∗ (((c : Thread nD τ).loc cc0_stg11_0) ↦{fullShare} kernelOut x0 x1 x2 x3 x4 x5 x6 x8 x9 x10) ∗ (∃ f, (((c : Thread nD τ).loc cc0_scratch0) ↦{fullShare} f))) -∗ K ⟨⟩))
      ⊢ wp frame (wpE (defs₀ (F := F)) 𝒱₀ (c : Thread nD τ) none) E (cc0__matcher_kernel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _)) K := by
  simp only [cc0__matcher_kernel_eq_skeleton]; unfold cc0__matcher_kernel_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  iintro ⟨H0, H1, H2, H3, H4, H5, H6, H8, H9, H10, H11, Hs, Hk⟩
  iapply (wp_load 𝒱₀ (c : Thread nD τ) none E (m := Memref.whole cc0_stg0_0) (Finset.subset_univ _)) $$ H0; iintro H0
  iapply (wp_load 𝒱₀ (c : Thread nD τ) none E (m := Memref.whole cc0_stg1_0) (Finset.subset_univ _)) $$ H1; iintro H1
  iapply (wp_load 𝒱₀ (c : Thread nD τ) none E (m := Memref.whole cc0_stg2_0) (Finset.subset_univ _)) $$ H2; iintro H2
  iapply (wp_load 𝒱₀ (c : Thread nD τ) none E (m := Memref.whole cc0_stg3_0) (Finset.subset_univ _)) $$ H3; iintro H3
  iapply (wp_load 𝒱₀ (c : Thread nD τ) none E (m := Memref.whole cc0_stg4_0) (Finset.subset_univ _)) $$ H4; iintro H4
  iapply (wp_load 𝒱₀ (c : Thread nD τ) none E (m := Memref.whole cc0_stg5_0) (Finset.subset_univ _)) $$ H5; iintro H5
  iapply (wp_load 𝒱₀ (c : Thread nD τ) none E (m := Memref.whole cc0_stg6_0) (Finset.subset_univ _)) $$ H6; iintro H6
  have r0 : (View.whole cc0_stg0_0 : View sig .tc _ _ _).readAt (Elt F) (Rect.unit (s := S8x640) ![0, 0] S8x640.size inb_S8x640_S8x640_0_0).toLoadRect x0 = x0 :=
    Memref.readAt_unit_zero (Elt F) cc0_stg0_0 zero_off _ x0
  have r1 : (View.whole cc0_stg1_0 : View sig .tc _ _ _).readAt (Elt F) (Rect.unit (s := S8x640) ![0, 0] S8x640.size inb_S8x640_S8x640_0_0).toLoadRect x1 = x1 :=
    Memref.readAt_unit_zero (Elt F) cc0_stg1_0 zero_off _ x1
  have r2 : (View.whole cc0_stg2_0 : View sig .tc _ _ _).readAt (Elt F) (Rect.unit (s := S8x640) ![0, 0] S8x640.size inb_S8x640_S8x640_0_0).toLoadRect x2 = x2 :=
    Memref.readAt_unit_zero (Elt F) cc0_stg2_0 zero_off _ x2
  have r3 : (View.whole cc0_stg3_0 : View sig .tc _ _ _).readAt (Elt F) (Rect.unit (s := S8x640) ![0, 0] S8x640.size inb_S8x640_S8x640_0_0).toLoadRect x3 = x3 :=
    Memref.readAt_unit_zero (Elt F) cc0_stg3_0 zero_off _ x3
  have r4 : (View.whole cc0_stg4_0 : View sig .tc _ _ _).readAt (Elt F) (Rect.unit (s := S8x640) ![0, 0] S8x640.size inb_S8x640_S8x640_0_0).toLoadRect x4 = x4 :=
    Memref.readAt_unit_zero (Elt F) cc0_stg4_0 zero_off _ x4
  have r5 : (View.whole cc0_stg5_0 : View sig .tc _ _ _).readAt (Elt F) (Rect.unit (s := S8x640) ![0, 0] S8x640.size inb_S8x640_S8x640_0_0).toLoadRect x5 = x5 :=
    Memref.readAt_unit_zero (Elt F) cc0_stg5_0 zero_off _ x5
  have r6 : (View.whole cc0_stg6_0 : View sig .tc _ _ _).readAt (Elt F) (Rect.unit (s := S8x640) ![0, 0] S8x640.size inb_S8x640_S8x640_0_0).toLoadRect x6 = x6 :=
    Memref.readAt_unit_zero (Elt F) cc0_stg6_0 zero_off _ x6
  rw [r0, r1, r2, r3, r4, r5, r6]
  clear r0 r1 r2 r3 r4 r5 r6
  have hout : kernelOut x0 x1 x2 x3 x4 x5 x6 x8 x9 x10 = outAfter (rowsOf (clustering (planes x0 x1 x2 x3 x4 x5 x6)) x8 x9 x10)
    (blocks (rowsOf (clustering (planes x0 x1 x2 x3 x4 x5 x6)) x8 x9 x10)) := rfl
  rw [hout]
  clear hout
  obtain ⟨P, hP⟩ : ∃ P, P = planes x0 x1 x2 x3 x4 x5 x6 := ⟨_, rfl⟩
  have e1 : k0_pay24 k0_pay9 (k0_pay10 x0) (k0_pay19 x3 x4 x6) = P.x1 := by rw [hP]; rfl
  have e2 : k0_pay25 k0_pay9 (k0_pay10 x0) (k0_pay19 x3 x4 x6) = P.x2 := by rw [hP]; rfl
  have e3 : k0_pay26 (k0_pay11 x1) (k0_pay20 x3 x6) (k0_pay21 x4 x6) = P.y1 := by rw [hP]; rfl
  have e4 : k0_pay27 (k0_pay11 x1) (k0_pay20 x3 x6) (k0_pay21 x4 x6) = P.y2 := by rw [hP]; rfl
  have e5 : k0_pay28 (k0_pay12 x2) (k0_pay15 x5) = P.z1 := by rw [hP]; rfl
  have e6 : k0_pay29 (k0_pay12 x2) (k0_pay15 x5) = P.z2 := by rw [hP]; rfl
  have e7 : k0_pay30 k0_pay9 (k0_pay10 x0) (k0_pay11 x1) (k0_pay12 x2) (k0_pay15 x5) (k0_pay19 x3 x4 x6) (k0_pay20 x3 x6) (k0_pay21 x4 x6) = P.vol := by
    rw [hP]; rfl
  rw [e1, e2, e3, e4, e5, e6, e7, ← hP]
  rw [← hP] at hend hn
  clear e1 e2 e3 e4 e5 e6 e7
  clear hP
  obtain ⟨c0, hc0⟩ : ∃ a : IVec S8x640 32, a = k0_pay31 k0_pay8 k0_pay9 := ⟨_, rfl⟩
  obtain ⟨n0, hn0⟩ : ∃ a : IVec S1x1 32, a = k0_pay32 k0_pay8 k0_pay9 := ⟨_, rfl⟩
  have hst : clustering P = cRun P 5000 (c0, 0#32, n0) := by rw [hc0, hn0]; rfl
  rw [← hc0, ← hn0]
  rw [hst] at hend hn
  rw [hst]
  clear hst hc0 hn0
  have hcall := cSpec_le (F := F) c E P 5000 (c0, 0#32, n0) hend
  dsimp only at hcall
  iapply (wp_call_spec (defs := defs₀ (F := F)) (ℓ := (1 : (Λ₀ F).Label)) 𝒱₀ (c : Thread nD τ) none E (cSpec P 5000 (c0, 0#32, n0)) 5000
    (fun u hu => nomatch hu) hcall)
  rw [cSpec_apply]
  generalize cRun P 5000 (c0, 0#32, n0) = st at hn ⊢
  isplitr; · iempintro
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 0] S1x640.size inb_S1x5120_S1x640_0_0) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 640] S1x640.size inb_S1x5120_S1x640_0_640) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 1280] S1x640.size inb_S1x5120_S1x640_0_1280) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 1920] S1x640.size inb_S1x5120_S1x640_0_1920) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 2560] S1x640.size inb_S1x5120_S1x640_0_2560) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 3200] S1x640.size inb_S1x5120_S1x640_0_3200) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 3840] S1x640.size inb_S1x5120_S1x640_0_3840) (Mk := Finset.univ) (Finset.subset_univ _)) $$ Hs; iintro Hs
  iapply (wp_load 𝒱₀ (c : Thread nD τ) none E (m := Memref.whole cc0_scratch0) (Finset.subset_univ _)) $$ Hs; iintro Hs
  iapply (wp_store 𝒱₀ (c : Thread nD τ) none E (m := Memref.whole cc0_scratch0) (r := Rect.unit (s := S1x5120) ![0, 4480] S1x640.size inb_S1x5120_S1x640_0_4480) (Mk := Finset.univ) (Finset.subset_univ _)) $$ Hs; iintro Hs
  have hw : ((Memref.whole cc0_scratch0).access (Rect.unit (s := S1x5120) ![0, 4480] S1x640.size inb_S1x5120_S1x640_0_4480) : View sig .tc _ _ _).write (Elt F)
      (((Memref.whole cc0_scratch0).access (Rect.unit (s := S1x5120) ![0, 3840] S1x640.size inb_S1x5120_S1x640_0_3840) : View sig .tc _ _ _).write (Elt F)
      (((Memref.whole cc0_scratch0).access (Rect.unit (s := S1x5120) ![0, 3200] S1x640.size inb_S1x5120_S1x640_0_3200) : View sig .tc _ _ _).write (Elt F)
      (((Memref.whole cc0_scratch0).access (Rect.unit (s := S1x5120) ![0, 2560] S1x640.size inb_S1x5120_S1x640_0_2560) : View sig .tc _ _ _).write (Elt F)
      (((Memref.whole cc0_scratch0).access (Rect.unit (s := S1x5120) ![0, 1920] S1x640.size inb_S1x5120_S1x640_0_1920) : View sig .tc _ _ _).write (Elt F)
      (((Memref.whole cc0_scratch0).access (Rect.unit (s := S1x5120) ![0, 1280] S1x640.size inb_S1x5120_S1x640_0_1280) : View sig .tc _ _ _).write (Elt F)
      (((Memref.whole cc0_scratch0).access (Rect.unit (s := S1x5120) ![0, 640] S1x640.size inb_S1x5120_S1x640_0_640) : View sig .tc _ _ _).write (Elt F)
      (((Memref.whole cc0_scratch0).access (Rect.unit (s := S1x5120) ![0, 0] S1x640.size inb_S1x5120_S1x640_0_0) : View sig .tc _ _ _).write (Elt F)
      (fs) (k0_pay34 st.1) Finset.univ) (k0_pay35 st.1) Finset.univ) (k0_pay37 (k0_pay36 st.1)) Finset.univ) (k0_pay38 (k0_pay33 st.1)) Finset.univ) (k0_pay39 (k0_pay33 st.1)) Finset.univ) (k0_pay40 (k0_pay33 st.1)) Finset.univ) (k0_pay41 (k0_pay33 st.1)) Finset.univ) (k0_pay42 (k0_pay33 st.1)) Finset.univ = segRow st.1 := seg_writes st.1 fs
  rw [hw]
  clear hw
  iapply (wp_load 𝒱₀ (c : Thread nD τ) none E (m := Memref.whole cc0_scratch0) (Finset.subset_univ _)) $$ Hs; iintro Hs
  iapply (wp_load 𝒱₀ (c : Thread nD τ) none E (m := Memref.whole cc0_stg8_0) (Finset.subset_univ _)) $$ H8; iintro H8
  iapply (wp_load 𝒱₀ (c : Thread nD τ) none E (m := Memref.whole cc0_stg9_0) (Finset.subset_univ _)) $$ H9; iintro H9
  iapply (wp_load 𝒱₀ (c : Thread nD τ) none E (m := Memref.whole cc0_stg10_0) (Finset.subset_univ _)) $$ H10; iintro H10
  iapply (wp_load 𝒱₀ (c : Thread nD τ) none E (m := Memref.whole cc0_stg11_0) (Finset.subset_univ _)) $$ H11; iintro H11
  iapply (wp_store 𝒱₀ (c : Thread nD τ) none E (m := Memref.whole cc0_stg11_0) (r := Rect.unit (s := S5120x16) ![0, 0] S5120x16.size inb_S5120x16_S5120x16_0_0) (Mk := Finset.univ) (Finset.subset_univ _)) $$ H11; iintro H11
  have rs : (View.whole cc0_scratch0 : View sig .tc _ _ _).readAt (Elt F) (Rect.unit (s := S1x5120) ![0, 0] S1x5120.size inb_S1x5120_S1x5120_0_0).toLoadRect (segRow st.1) = (segRow st.1) :=
    Memref.readAt_unit_zero (Elt F) cc0_scratch0 zero_off _ _
  have r8 : (View.whole cc0_stg8_0 : View sig .tc _ _ _).readAt (Elt F) (Rect.unit (s := S1x5120) ![0, 0] S1x5120.size inb_S1x5120_S1x5120_0_0).toLoadRect x8 = x8 :=
    Memref.readAt_unit_zero (Elt F) cc0_stg8_0 zero_off _ _
  have r9 : (View.whole cc0_stg9_0 : View sig .tc _ _ _).readAt (Elt F) (Rect.unit (s := S1x5120) ![0, 0] S1x5120.size inb_S1x5120_S1x5120_0_0).toLoadRect x9 = x9 :=
    Memref.readAt_unit_zero (Elt F) cc0_stg9_0 zero_off _ _
  have r10 : (View.whole cc0_stg10_0 : View sig .tc _ _ _).readAt (Elt F) (Rect.unit (s := S5120x8) ![0, 0] S5120x8.size inb_S5120x8_S5120x8_0_0).toLoadRect x10 = x10 :=
    Memref.readAt_unit_zero (Elt F) cc0_stg10_0 zero_off _ _
  have w11 : ((Memref.whole cc0_stg11_0).access (Rect.unit (s := S5120x16) ![0, 0] S5120x16.size inb_S5120x16_S5120x16_0_0) : View sig .tc _ _ _).write (Elt F)
      fo (k0_pay5 (F := F)) Finset.univ = k0_pay5 (F := F) := Memref.write_access_unit_zero_univ (Elt F) cc0_stg11_0 zero_off _ _ _
  rw [rs, r8, r9, r10, w11, cleared (rowsOf st x8 x9 x10)]
  clear rs r8 r9 r10 w11
  have hfuse := fSpec_le (F := F) c E (rowsOf st x8 x9 x10) hn (blocks (rowsOf st x8 x9 x10)) 0 (Nat.zero_add _)
  have f1 : st.2.1 = (rowsOf st x8 x9 x10).nseg := rfl
  have f2 : segRow st.1 = (rowsOf st x8 x9 x10).seg := rfl
  have f3 : k0_pay45 x9 = (rowsOf st x8 x9 x10).sc := rfl
  have f4 : k0_pay4 x10 = (rowsOf st x8 x9 x10).w := rfl
  have f5 : k0_pay1 (k0_pay44 x8) (k0_pay46 x8) = (rowsOf st x8 x9 x10).r := rfl
  have f6 : k0_pay2 (k0_pay44 x8) (k0_pay46 x8) = (rowsOf st x8 x9 x10).sin := rfl
  have f7 : k0_pay3 (k0_pay44 x8) (k0_pay46 x8) = (rowsOf st x8 x9 x10).cos := rfl
  rw [f1, f2, f3, f4, f5, f6, f7]
  clear f1 f2 f3 f4 f5 f6 f7
  generalize rowsOf st x8 x9 x10 = R at hfuse ⊢
  iapply (wp_call_spec (defs := defs₀ (F := F)) (ℓ := (2 : (Λ₀ F).Label)) 𝒱₀ (c : Thread nD τ) none E (fSpec c R 0) (blocks R)
    (fun u hu => nomatch hu) hfuse)
  rw [fSpec_apply]
  unfold heldOut
  isplitl [H11]; · iexact H11
  iintro %r H11
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iexists _; iexact Hs

end Cert.Proof.K

end
-- ==== Proof.K.Sound.lean ====
/- The kernel's launch: when the clustering ends, every execution ends with the region's output array at `finalOut`. -/
module

public import proofs.«01_k».proof.Proof.K.Run
public import proofs.«01_k».proof.Proof.K.Kernel

@[expose] public section

set_option maxRecDepth 65536

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The clustering of core `c` ends, with at most 5000 clusters. -/
def Ends (c : Dev nD) : Prop := ¬ cMore (finalState m c) ∧ (finalState m c).2.1.toNat ≤ 5000

theorem after_0 (c : Dev nD) (t : Fin (cfg0 (F := F)).N) : (dats m 0 c).after 0 t = V m c main_call0_v3 :=
  Eq.trans (b := blockAt m c 0 t) rfl (blk_0 m c t)
theorem after_1 (c : Dev nD) (t : Fin (cfg0 (F := F)).N) : (dats m 0 c).after 1 t = V m c main_call0_v7 :=
  Eq.trans (b := blockAt m c 1 t) rfl (blk_1 m c t)
theorem after_2 (c : Dev nD) (t : Fin (cfg0 (F := F)).N) : (dats m 0 c).after 2 t = V m c main_call0_v11 :=
  Eq.trans (b := blockAt m c 2 t) rfl (blk_2 m c t)
theorem after_3 (c : Dev nD) (t : Fin (cfg0 (F := F)).N) : (dats m 0 c).after 3 t = V m c main_call0_v15 :=
  Eq.trans (b := blockAt m c 3 t) rfl (blk_3 m c t)
theorem after_4 (c : Dev nD) (t : Fin (cfg0 (F := F)).N) : (dats m 0 c).after 4 t = V m c main_call0_v19 :=
  Eq.trans (b := blockAt m c 4 t) rfl (blk_4 m c t)
theorem after_5 (c : Dev nD) (t : Fin (cfg0 (F := F)).N) : (dats m 0 c).after 5 t = V m c main_call0_v23 :=
  Eq.trans (b := blockAt m c 5 t) rfl (blk_5 m c t)
theorem after_6 (c : Dev nD) (t : Fin (cfg0 (F := F)).N) : (dats m 0 c).after 6 t = V m c main_call0_v27 :=
  Eq.trans (b := blockAt m c 6 t) rfl (blk_6 m c t)
theorem after_7 (c : Dev nD) (t : Fin (cfg0 (F := F)).N) : (dats m 0 c).after 7 t = V m c main_call0_v29 :=
  Eq.trans (b := blockAt m c 7 t) rfl (blk_7 m c t)
theorem after_8 (c : Dev nD) (t : Fin (cfg0 (F := F)).N) : (dats m 0 c).after 8 t = V m c main_call0_v33 :=
  Eq.trans (b := blockAt m c 8 t) rfl (blk_8 m c t)
theorem after_9 (c : Dev nD) (t : Fin (cfg0 (F := F)).N) : (dats m 0 c).after 9 t = V m c main_call0_v35 :=
  Eq.trans (b := blockAt m c 9 t) rfl (blk_9 m c t)
theorem after_10 (c : Dev nD) (t : Fin (cfg0 (F := F)).N) : (dats m 0 c).after 10 t = V m c main_call0_v58 :=
  Eq.trans (b := blockAt m c 10 t) rfl (blk_10 m c t)
theorem after_11 (c : Dev nD) (t : Fin (cfg0 (F := F)).N) : (dats m 0 c).after 11 t = finalOut m c := rfl

/-- What the body starts from. -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d))
    ∗ (∃ d, owns (c : Thread nD τ) (win0_6.stage ((cfg0 (F := F)).slots t 6)) fullShare ((dats m 0 c).before 6 t d))
    ∗ (∃ d, owns (c : Thread nD τ) (win0_7.stage ((cfg0 (F := F)).slots t 7)) fullShare ((dats m 0 c).before 7 t d))
    ∗ (∃ d, owns (c : Thread nD τ) (win0_8.stage ((cfg0 (F := F)).slots t 8)) fullShare ((dats m 0 c).before 8 t d))
    ∗ (∃ d, owns (c : Thread nD τ) (win0_9.stage ((cfg0 (F := F)).slots t 9)) fullShare ((dats m 0 c).before 9 t d))
    ∗ (∃ d, owns (c : Thread nD τ) (win0_10.stage ((cfg0 (F := F)).slots t 10)) fullShare ((dats m 0 c).before 10 t d))
    ∗ (∃ d, owns (c : Thread nD τ) (win0_11.stage ((cfg0 (F := F)).slots t 11)) fullShare ((dats m 0 c).before 11 t d)))

/-- What it ends with. -/
def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t)
    ∗ owns (c : Thread nD τ) (win0_6.stage ((cfg0 (F := F)).slots t 6)) fullShare ((dats m 0 c).after 6 t)
    ∗ owns (c : Thread nD τ) (win0_7.stage ((cfg0 (F := F)).slots t 7)) fullShare ((dats m 0 c).after 7 t)
    ∗ owns (c : Thread nD τ) (win0_8.stage ((cfg0 (F := F)).slots t 8)) fullShare ((dats m 0 c).after 8 t)
    ∗ owns (c : Thread nD τ) (win0_9.stage ((cfg0 (F := F)).slots t 9)) fullShare ((dats m 0 c).after 9 t)
    ∗ owns (c : Thread nD τ) (win0_10.stage ((cfg0 (F := F)).slots t 10)) fullShare ((dats m 0 c).after 10 t)
    ∗ owns (c : Thread nD τ) (win0_11.stage ((cfg0 (F := F)).slots t 11)) fullShare ((dats m 0 c).after 11 t))

set_option maxHeartbeats 4000000 in
/-- The body's run, with what rides along. -/
theorem glue (c : Dev nD) (x0 : FVec F S8x640 .f32) (x1 : FVec F S8x640 .f32) (x2 : FVec F S8x640 .f32) (x3 : FVec F S8x640 .f32) (x4 : FVec F S8x640 .f32) (x5 : FVec F S8x640 .f32) (x6 : FVec F S8x640 .f32) (x7 : FVec F S8x640 .f32) (x8 : FVec F S1x5120 .f32) (x9 : FVec F S1x5120 .f32) (x10 : FVec F S5120x8 .f32) (fin : FVec F S5120x16 .f32) (G O : sProp 𝕄) {D0 : Type} {D1 : Type} {D2 : Type} {D3 : Type} {D4 : Type} {D5 : Type} {D6 : Type} {D7 : Type} {D8 : Type} {D9 : Type} {D10 : Type} {D11 : Type} (H : D11 → sProp 𝕄)
    (hend : ¬ cMore (clustering (planes x0 x1 x2 x3 x4 x5 x6))) (hn : (clustering (planes x0 x1 x2 x3 x4 x5 x6)).2.1.toNat ≤ 5000)
    (hfin : fin = kernelOut x0 x1 x2 x3 x4 x5 x6 x8 x9 x10)
    (h11 : ∀ d, H d ⊢ iprop(∃ f, (((c : Thread nD τ).loc cc0_stg11_0) ↦{fullShare} f))) :
    iprop(((∃ d, (((c : Thread nD τ).loc cc0_scratch0) ↦{fullShare} d)) ∗ G) ∗ O ∗ (∃ _ : D0, (((c : Thread nD τ).loc cc0_stg0_0) ↦{fullShare} x0)) ∗ (∃ _ : D1, (((c : Thread nD τ).loc cc0_stg1_0) ↦{fullShare} x1)) ∗ (∃ _ : D2, (((c : Thread nD τ).loc cc0_stg2_0) ↦{fullShare} x2)) ∗ (∃ _ : D3, (((c : Thread nD τ).loc cc0_stg3_0) ↦{fullShare} x3)) ∗ (∃ _ : D4, (((c : Thread nD τ).loc cc0_stg4_0) ↦{fullShare} x4)) ∗ (∃ _ : D5, (((c : Thread nD τ).loc cc0_stg5_0) ↦{fullShare} x5)) ∗ (∃ _ : D6, (((c : Thread nD τ).loc cc0_stg6_0) ↦{fullShare} x6)) ∗ (∃ _ : D7, (((c : Thread nD τ).loc cc0_stg7_0) ↦{fullShare} x7)) ∗ (∃ _ : D8, (((c : Thread nD τ).loc cc0_stg8_0) ↦{fullShare} x8)) ∗ (∃ _ : D9, (((c : Thread nD τ).loc cc0_stg9_0) ↦{fullShare} x9)) ∗ (∃ _ : D10, (((c : Thread nD τ).loc cc0_stg10_0) ↦{fullShare} x10)) ∗ (∃ d, H d))
    ⊢ wp frame (wpE (defs₀ (F := F)) 𝒱₀ (c : Thread nD τ) none) Set.univ (cc0__matcher_kernel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _)) fun _ => iprop(((∃ d, (((c : Thread nD τ).loc cc0_scratch0) ↦{fullShare} d)) ∗ G) ∗ O ∗ (((c : Thread nD τ).loc cc0_stg0_0) ↦{fullShare} x0) ∗ (((c : Thread nD τ).loc cc0_stg1_0) ↦{fullShare} x1) ∗ (((c : Thread nD τ).loc cc0_stg2_0) ↦{fullShare} x2) ∗ (((c : Thread nD τ).loc cc0_stg3_0) ↦{fullShare} x3) ∗ (((c : Thread nD τ).loc cc0_stg4_0) ↦{fullShare} x4) ∗ (((c : Thread nD τ).loc cc0_stg5_0) ↦{fullShare} x5) ∗ (((c : Thread nD τ).loc cc0_stg6_0) ↦{fullShare} x6) ∗ (((c : Thread nD τ).loc cc0_stg7_0) ↦{fullShare} x7) ∗ (((c : Thread nD τ).loc cc0_stg8_0) ↦{fullShare} x8) ∗ (((c : Thread nD τ).loc cc0_stg9_0) ↦{fullShare} x9) ∗ (((c : Thread nD τ).loc cc0_stg10_0) ↦{fullShare} x10) ∗ (((c : Thread nD τ).loc cc0_stg11_0) ↦{fullShare} fin)) := by
  rw [hfin]
  iintro ⟨⟨⟨%fs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11'⟩⟩
  ihave H11 := (h11 d11) $$ H11'
  icases H11 with ⟨%fo, H11⟩
  iapply (kernel_run c x0 x1 x2 x3 x4 x5 x6 x8 x9 x10 fo fs hend hn Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [Hs]; · iexact Hs
  iintro ⟨H0, H1, H2, H3, H4, H5, H6, H8, H9, H10, H11, ⟨%f, Hs⟩⟩
  isplitl [Hs Hg]
  · isplitl [Hs]
    · iexists _; iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body from what it starts from to what it ends with. -/
theorem sound_body (c : Dev nD) (he : Ends m c) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, inv_eq]
  have o0 : ∀ X, (owns (c : Thread nD τ) (stage0_0 0) fullShare X : sProp 𝕄) = (((c : Thread nD τ).loc cc0_stg0_0) ↦{fullShare} X) := fun X => owns_whole (c : Thread nD τ) cc0_stg0_0 fullShare X
  have o1 : ∀ X, (owns (c : Thread nD τ) (stage0_1 0) fullShare X : sProp 𝕄) = (((c : Thread nD τ).loc cc0_stg1_0) ↦{fullShare} X) := fun X => owns_whole (c : Thread nD τ) cc0_stg1_0 fullShare X
  have o2 : ∀ X, (owns (c : Thread nD τ) (stage0_2 0) fullShare X : sProp 𝕄) = (((c : Thread nD τ).loc cc0_stg2_0) ↦{fullShare} X) := fun X => owns_whole (c : Thread nD τ) cc0_stg2_0 fullShare X
  have o3 : ∀ X, (owns (c : Thread nD τ) (stage0_3 0) fullShare X : sProp 𝕄) = (((c : Thread nD τ).loc cc0_stg3_0) ↦{fullShare} X) := fun X => owns_whole (c : Thread nD τ) cc0_stg3_0 fullShare X
  have o4 : ∀ X, (owns (c : Thread nD τ) (stage0_4 0) fullShare X : sProp 𝕄) = (((c : Thread nD τ).loc cc0_stg4_0) ↦{fullShare} X) := fun X => owns_whole (c : Thread nD τ) cc0_stg4_0 fullShare X
  have o5 : ∀ X, (owns (c : Thread nD τ) (stage0_5 0) fullShare X : sProp 𝕄) = (((c : Thread nD τ).loc cc0_stg5_0) ↦{fullShare} X) := fun X => owns_whole (c : Thread nD τ) cc0_stg5_0 fullShare X
  have o6 : ∀ X, (owns (c : Thread nD τ) (stage0_6 0) fullShare X : sProp 𝕄) = (((c : Thread nD τ).loc cc0_stg6_0) ↦{fullShare} X) := fun X => owns_whole (c : Thread nD τ) cc0_stg6_0 fullShare X
  have o7 : ∀ X, (owns (c : Thread nD τ) (stage0_7 0) fullShare X : sProp 𝕄) = (((c : Thread nD τ).loc cc0_stg7_0) ↦{fullShare} X) := fun X => owns_whole (c : Thread nD τ) cc0_stg7_0 fullShare X
  have o8 : ∀ X, (owns (c : Thread nD τ) (stage0_8 0) fullShare X : sProp 𝕄) = (((c : Thread nD τ).loc cc0_stg8_0) ↦{fullShare} X) := fun X => owns_whole (c : Thread nD τ) cc0_stg8_0 fullShare X
  have o9 : ∀ X, (owns (c : Thread nD τ) (stage0_9 0) fullShare X : sProp 𝕄) = (((c : Thread nD τ).loc cc0_stg9_0) ↦{fullShare} X) := fun X => owns_whole (c : Thread nD τ) cc0_stg9_0 fullShare X
  have o10 : ∀ X, (owns (c : Thread nD τ) (stage0_10 0) fullShare X : sProp 𝕄) = (((c : Thread nD τ).loc cc0_stg10_0) ↦{fullShare} X) := fun X => owns_whole (c : Thread nD τ) cc0_stg10_0 fullShare X
  have o11 : ∀ X, (owns (c : Thread nD τ) (stage0_11 0) fullShare X : sProp 𝕄) = (((c : Thread nD τ).loc cc0_stg11_0) ↦{fullShare} X) := fun X => owns_whole (c : Thread nD τ) cc0_stg11_0 fullShare X
  simp only [owns_whole, o0, o1, o2, o3, o4, o5, o6, o7, o8, o9, o10, o11]
  have h11 : ∀ d, (owns (c : Thread nD τ) (stage0_11 0) fullShare ((dats m 0 c).before 11 t d) : sProp 𝕄) ⊢ iprop(∃ f, (((c : Thread nD τ).loc cc0_stg11_0) ↦{fullShare} f)) := fun d => by
    rw [show (owns (c : Thread nD τ) (stage0_11 0) fullShare ((dats m 0 c).before 11 t d) : sProp 𝕄) = (((c : Thread nD τ).loc cc0_stg11_0) ↦{fullShare} (dats m 0 c).before 11 t d) from owns_whole (c : Thread nD τ) cc0_stg11_0 fullShare _]
    iintro H; iexists _; iexact H
  have hE := he
  unfold Ends finalState at hE
  exact glue c (V m c main_call0_v3) (V m c main_call0_v7) (V m c main_call0_v11) (V m c main_call0_v15) (V m c main_call0_v19) (V m c main_call0_v23) (V m c main_call0_v27) (V m c main_call0_v29) (V m c main_call0_v33) (V m c main_call0_v35) (V m c main_call0_v58) (finalOut m c) _ _ _ hE.1 hE.2 rfl h11

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) (he : Ends m c) : BodyObligation (dats (F := F) m 0 c) (defs₀ (F := F)) 𝒱₀ () Set.univ := fun t => by
  rw [bigSep_W0, bigSep_W0, defs₀_row]
  exact triple_restated (sound_body m c he t) rfl .rfl fun _ => .rfl

set_option backward.isDefEq.respectTransparency.types false in
set_option maxHeartbeats 800000 in
/-- Every execution ends, with the region's arrays at what the proof data says, the other arrays as the host lines leave
    them, and every semaphore at zero. -/
theorem run (he : ∀ c, Ends m c) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation m c (he c)).loose) (hshare := fun c => (dats m 0 c).share_full fun _ => rfl)
    (howed := fun _ _ => rfl) (V₀ := V0 m) (opss := [hostOps1]) (hsub := post_sub) (hfresh := post_fresh') (hkeep := post_keeps)
    (hmain := main_around m 𝒱₀) (hA := A_eq m) (hΦ := fun _ _ => rfl)

end Cert.Proof.K

end
-- ==== Proof.M.Greedy.lean ====
/- Greedy clustering over a relation between boxes, as pure mathematics: boxes are taken in order; a box without a cluster
   opens a new one and every box related to it joins (leaving any cluster it was in). -/
module

public import Idealize.ShloMosaic.Lib.PointwiseCore

@[expose] public section

namespace Cert.Proof.M

variable {N : ℕ} (R : Fin N → Fin N → Prop) [∀ i j, Decidable (R i j)]

/-- One box's turn: the clusters so far (0 for none) and the next cluster's number. -/
def turn (i : Fin N) (g : (Fin N → ℕ) × ℕ) : (Fin N → ℕ) × ℕ :=
  if g.1 i = 0 then (fun j => if R i j then g.2 else g.1 j, g.2 + 1) else g

/-- The clusters after the first `k` boxes' turns. -/
def greedy : ℕ → (Fin N → ℕ) × ℕ
  | 0 => (fun _ => 0, 1)
  | k + 1 => if h : k < N then turn R ⟨k, h⟩ (greedy k) else greedy k

theorem greedy_succ (k : ℕ) (h : k < N) : greedy R (k + 1) = turn R ⟨k, h⟩ (greedy R k) := by
  simp only [greedy, dif_pos h]

/-- The next number is between 1 and one more than the number of turns. -/
theorem greedy_cur (k : ℕ) : 1 ≤ (greedy R k).2 ∧ (greedy R k).2 ≤ k + 1 := by
  induction k with
  | zero => exact ⟨le_refl _, le_refl _⟩
  | succ k ih =>
    by_cases h : k < N
    · rw [greedy_succ R k h]; unfold turn
      split
      · exact ⟨by omega, by show (greedy R k).2 + 1 ≤ _; omega⟩
      · omega
    · simp only [greedy, dif_neg h]; omega

/-- No more clusters than boxes. -/
theorem greedy_cur_le (k : ℕ) : (greedy R k).2 ≤ N + 1 := by
  induction k with
  | zero => show 1 ≤ _; omega
  | succ k ih =>
    by_cases h : k < N
    · have := greedy_cur R (k + 1); omega
    · simp only [greedy, dif_neg h]; exact ih

/-- Every cluster number given out is below the next one. -/
theorem greedy_lt (k : ℕ) (j : Fin N) : (greedy R k).1 j < (greedy R k).2 := by
  induction k with
  | zero => exact Nat.one_pos
  | succ k ih =>
    by_cases h : k < N
    · rw [greedy_succ R k h]; unfold turn
      split
      · show (if R ⟨k, h⟩ j then (greedy R k).2 else (greedy R k).1 j) < (greedy R k).2 + 1
        split <;> omega
      · exact ih
    · simp only [greedy, dif_neg h]; exact ih

/-- A box once in a cluster stays in some cluster. -/
theorem turn_ne (i j : Fin N) (g : (Fin N → ℕ) × ℕ) (hg : 1 ≤ g.2) (h : g.1 j ≠ 0) : (turn R i g).1 j ≠ 0 := by
  unfold turn
  split
  · show (if R i j then g.2 else g.1 j) ≠ 0
    split
    · omega
    · exact h
  · exact h

/-- When every box is related to itself, the boxes that had their turn are in clusters. -/
theorem greedy_done (hR : ∀ i, R i i) (k : ℕ) : ∀ j : Fin N, j.val < k → (greedy R k).1 j ≠ 0 := by
  induction k with
  | zero => intro j hj; omega
  | succ k ih =>
    intro j hj
    by_cases h : k < N
    · rw [greedy_succ R k h]
      by_cases hjk : j.val < k
      · exact turn_ne R _ _ _ (greedy_cur R k).1 (ih j hjk)
      · have e : j = ⟨k, h⟩ := Fin.ext (by show j.val = k; omega)
        subst e
        unfold turn
        split
        · show (if R ⟨k, h⟩ ⟨k, h⟩ then (greedy R k).2 else _) ≠ 0
          rw [if_pos (hR _)]
          have := (greedy_cur R k).1; omega
        · assumption
    · simp only [greedy, dif_neg h]
      exact ih j (by have := j.isLt; omega)

/-- Turns of boxes already in clusters change nothing. -/
theorem greedy_skip (k k' : ℕ) (hk : k ≤ k') (h : ∀ j : Fin N, k ≤ j.val → j.val < k' → (greedy R k).1 j ≠ 0) :
    greedy R k' = greedy R k := by
  induction k', hk using Nat.le_induction with
  | base => rfl
  | succ n hn ih =>
    have e := ih (fun j h1 h2 => h j h1 (by omega))
    by_cases hN : n < N
    · rw [greedy_succ R n hN, e]
      unfold turn
      rw [if_neg (h ⟨n, hN⟩ hn (Nat.lt_succ_self n))]
    · simp only [greedy, dif_neg hN]; exact e

/-- The first box from `k` on without a cluster, or the number of boxes. -/
theorem exists_next (k : ℕ) (hk : k ≤ N) (f : Fin N → ℕ) : ∃ k', k ≤ k' ∧ k' ≤ N ∧ (∀ j : Fin N, k ≤ j.val → j.val < k' → f j ≠ 0)
    ∧ (∀ h : k' < N, f ⟨k', h⟩ = 0) := by
  classical
  by_cases h : ∃ n, k ≤ n ∧ ∃ hn : n < N, f ⟨n, hn⟩ = 0
  · refine ⟨Nat.find h, (Nat.find_spec h).1, le_of_lt (Nat.find_spec h).2.1, ?_, fun _ => (Nat.find_spec h).2.2⟩
    intro j h1 h2 h0
    exact Nat.find_min h h2 ⟨h1, j.isLt, h0⟩
  · refine ⟨N, hk, le_refl _, ?_, fun h' => absurd h' (lt_irrefl _)⟩
    intro j h1 _ h0
    exact h ⟨j.val, h1, j.isLt, h0⟩

end Cert.Proof.M
-- ==== Proof.K.Cluster.lean ====
/- The kernel's clustering loop computes the greedy clustering: after each trip its plane holds, for every box, its own
   number while it has no cluster and 5120 plus its cluster's number once it has one. -/
module

public import proofs.«01_k».proof.Proof.K.TripVal
public import proofs.«01_k».proof.Proof.M.Greedy

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

variable (g : Geo (Fin 5000))

/-- What the plane holds of a box whose cluster is `c` (0 for none). -/
def mark (n c : ℕ) : ℕ := if c = 0 then n else 5119 + c

/-- The plane `a` holds the clusters `ci`: every box's mark, and numbers past the boxes elsewhere. -/
structure Holds (a : IVec S8x640 32) (ci : Fin 5000 → ℕ) : Prop where
  box : ∀ (n : Fin 5120) (h : n.val < 5000), a (pos n) = BitVec.ofNat 32 (mark n.val (ci ⟨n.val, h⟩))
  pad : ∀ n : Fin 5120, 5000 ≤ n.val → ∃ w, 5120 ≤ w ∧ w < 20000 ∧ a (pos n) = BitVec.ofNat 32 w

/-- The loop's state after the turns of the boxes before `k`. -/
structure Inv (s : CState) (k : ℕ) : Prop where
  le : k ≤ 5000
  holds : Holds s.1 (greedy g.hit k).1
  num : s.2.1 = BitVec.ofNat 32 ((greedy g.hit k).2 - 1)
  next : ∀ h : k < 5000, s.2.2 (ix2 0 0) = BitVec.ofNat 32 k ∧ (greedy g.hit k).1 ⟨k, h⟩ = 0
  done : k = 5000 → ∃ w, 5120 ≤ w ∧ w < 20000 ∧ s.2.2 (ix2 0 0) = BitVec.ofNat 32 w

theorem toInt_ofNat (w : ℕ) (h : w < 20000) : (BitVec.ofNat 32 w).toInt = w := by
  rw [BitVec.toInt_eq_toNat_of_lt (by rw [BitVec.toNat_ofNat]; omega), BitVec.toNat_ofNat, Nat.mod_eq_of_lt (by omega)]

theorem ofNat_inj (v w : ℕ) (hv : v < 20000) (hw : w < 20000) : BitVec.ofNat 32 v = BitVec.ofNat 32 w ↔ v = w := by
  constructor
  · intro h
    have := congrArg BitVec.toInt h
    rw [toInt_ofNat v hv, toInt_ofNat w hw] at this
    omega
  · rintro rfl; rfl

/-- What every element of such a plane is. -/
theorem Holds.elt {a : IVec S8x640 32} {ci : Fin 5000 → ℕ} (H : Holds a ci) (hci : ∀ n, ci n ≤ 5000) (q : Fin 5120) :
    ∃ w, w < 20000 ∧ a (pos q) = BitVec.ofNat 32 w ∧ (w < 5120 → ∃ h : q.val < 5000, w = q.val ∧ ci ⟨q.val, h⟩ = 0) := by
  by_cases h : q.val < 5000
  · refine ⟨mark q.val (ci ⟨q.val, h⟩), ?_, H.box q h, fun hw => ⟨h, ?_⟩⟩
    · unfold mark; have := hci ⟨q.val, h⟩; split <;> omega
    · unfold mark at hw ⊢
      split at hw
      · rename_i h0; exact ⟨if_pos h0, h0⟩
      · omega
  · obtain ⟨w, h1, h2, h3⟩ := H.pad q (by omega)
    exact ⟨w, h2, h3, fun h' => by omega⟩

/-- The smallest element of such a plane is the first box without a cluster, or past the boxes. -/
theorem Holds.min {a : IVec S8x640 32} {ci : Fin 5000 → ℕ} (H : Holds a ci) (hci : ∀ n, ci n ≤ 5000) (p : Fin 5120)
    (hp : ∀ q : Fin 5120, (a (pos p)).toInt ≤ (a (pos q)).toInt) (k : ℕ) (hk : k ≤ 5000) (hbefore : ∀ j : Fin 5000, j.val < k → ci j ≠ 0)
    (hat : ∀ h : k < 5000, ci ⟨k, h⟩ = 0) :
    (k < 5000 → a (pos p) = BitVec.ofNat 32 k) ∧ (k = 5000 → ∃ w, 5120 ≤ w ∧ w < 20000 ∧ a (pos p) = BitVec.ofNat 32 w) := by
  obtain ⟨w, hw, e, hlt⟩ := H.elt hci p
  constructor
  · intro h
    have hq := hp ⟨k, by omega⟩
    rw [H.box ⟨k, by omega⟩ h, e, hat h] at hq
    rw [show mark k 0 = k from rfl, toInt_ofNat _ hw, toInt_ofNat _ (by omega)] at hq
    obtain ⟨hp5, rfl, h0⟩ := hlt (by omega)
    have : ¬ p.val < k := fun hh => hbefore _ hh h0
    rw [e, show p.val = k by omega]
  · intro h
    refine ⟨w, ?_, hw, e⟩
    by_contra hh
    obtain ⟨hp5, -, h0⟩ := hlt (by omega)
    exact hbefore ⟨p.val, hp5⟩ (by show p.val < k; omega) h0

theorem ci_le (k : ℕ) (n : Fin 5000) : (greedy g.hit k).1 n ≤ 5000 := by
  have h1 := greedy_lt g.hit k n
  have h2 := greedy_cur_le g.hit k
  omega

/-- A plane and the clusters after some turns give the state after the turns that change nothing. -/
theorem Inv.of_plane (hself : ∀ i, g.hit i i) (s : CState) (k : ℕ) (hk : k ≤ 5000) (H : Holds s.1 (greedy g.hit k).1)
    (hnum : s.2.1 = BitVec.ofNat 32 ((greedy g.hit k).2 - 1))
    (hmin : ∃ p : Fin 5120, s.2.2 (ix2 0 0) = s.1 (pos p) ∧ ∀ q : Fin 5120, (s.1 (pos p)).toInt ≤ (s.1 (pos q)).toInt) :
    ∃ k', k ≤ k' ∧ Inv g s k' := by
  obtain ⟨k', h1, h2, h3, h4⟩ := exists_next k hk (greedy g.hit k).1
  have hs := greedy_skip g.hit k k' h1 h3
  obtain ⟨p, hp, hq⟩ := hmin
  have hm := H.min (ci_le g k) p hq k' h2
    (fun j hj => by
      by_cases hjk : j.val < k
      · exact greedy_done g.hit hself k j hjk
      · exact h3 j (by omega) hj) h4
  refine ⟨k', h1, h2, hs ▸ H, by rw [hs]; exact hnum, fun h => ⟨by rw [hp]; exact hm.1 h, by rw [hs]; exact h4 h⟩, fun h => ?_⟩
  rw [hp]; exact hm.2 h

/-- The state the loop starts from. -/
theorem inv_init (hself : ∀ i, g.hit i i) : ∃ k, Inv g cInit k := by
  have H : Holds cInit.1 (greedy g.hit 0).1 := by
    constructor
    · intro n h
      rw [show cInit.1 = k0_pay31 k0_pay8 k0_pay9 from rfl, pay31_at, if_pos h]
      rfl
    · intro n h
      refine ⟨5120, le_refl _, by omega, ?_⟩
      rw [show cInit.1 = k0_pay31 k0_pay8 k0_pay9 from rfl, pay31_at, if_neg (by omega)]
  obtain ⟨k, -, hI⟩ := Inv.of_plane g hself cInit 0 (by omega) H (show 0#32 = BitVec.ofNat 32 (1 - 1) from rfl)
    (by rw [show cInit.1 = k0_pay31 k0_pay8 k0_pay9 from rfl, show cInit.2.2 = k0_pay32 k0_pay8 k0_pay9 from rfl]; exact pay32_at)
  exact ⟨k, hI⟩

/-- While boxes are left the loop's test holds; when none is, it fails. -/
theorem Inv.more {s : CState} {k : ℕ} (I : Inv g s k) : cMore s ↔ k < 5000 := by
  have e : cMore s ↔ (s.2.2 (ix2 0 0)).slt 5000#32 = true := by
    have : extractAt ![0, 0] s.2.2 inpos_S1x1_p0_0 = s.2.2 (ix2 0 0) := by pointwise
    unfold cMore
    rw [this]
    show BitVec.ofBool ((s.2.2 (ix2 0 0)).slt 5000#32) = 1#1 ↔ _
    cases (s.2.2 (ix2 0 0)).slt 5000#32 <;> simp
  rw [e]
  by_cases h : k < 5000
  · rw [(I.next h).1, slt_5000 _ (by omega)]; simp [h]
  · obtain ⟨w, h1, h2, h3⟩ := I.done (by have := I.le; omega)
    rw [h3, slt_5000 _ (by omega)]
    simp; omega

set_option maxHeartbeats 1000000 in
/-- One trip is the next box's turn. -/
theorem Inv.step (hself : ∀ i, g.hit i i) {P : Planes Ideal} (hP : Fits P g) {s : CState} {k : ℕ} (I : Inv g s k) (hk : k < 5000) :
    ∃ k', k + 1 ≤ k' ∧ Inv g (cStep P s) k' := by
  have hn : ∀ j : Fin 5120, s.1 (pos j) = s.2.2 (ix2 0 0) ↔ j = (⟨k, by omega⟩ : Fin 5120) := by
    intro j
    rw [(I.next hk).1]
    obtain ⟨w, hw, e, hlt⟩ := I.holds.elt (ci_le g k) j
    rw [e, ofNat_inj w k hw (by omega), Fin.ext_iff]
    constructor
    · intro h
      obtain ⟨_, h', _⟩ := hlt (by omega)
      show j.val = k; omega
    · intro h
      have h : j.val = k := h
      have hb := I.holds.box j (by omega)
      rw [e] at hb
      have h0 : (greedy g.hit k).1 ⟨j.val, by omega⟩ = 0 := by
        have : (⟨j.val, by omega⟩ : Fin 5000) = ⟨k, hk⟩ := Fin.ext h
        rw [this]; exact (I.next hk).2
      rw [h0, show mark j.val 0 = j.val from rfl, ofNat_inj w j.val hw (by have := j.isLt; omega)] at hb
      omega
  have hcur := greedy_cur g.hit k
  have hcl := greedy_cur_le g.hit k
  have hnum : (5120#32 : BitVec 32) + s.2.1 = BitVec.ofNat 32 (5119 + (greedy g.hit k).2) := by
    rw [I.num, show (5120#32 : BitVec 32) = BitVec.ofNat 32 5120 from rfl, ← BitVec.ofNat_add]
    congr 1; omega
  have hg : greedy g.hit (k + 1) = (fun j => if g.hit ⟨k, hk⟩ j then (greedy g.hit k).2 else (greedy g.hit k).1 j, (greedy g.hit k).2 + 1) := by
    rw [greedy_succ g.hit k hk]; unfold turn; rw [if_pos (I.next hk).2]
  refine Inv.of_plane g hself (cStep P s) (k + 1) (by omega) ⟨?_, ?_⟩ ?_ (cNext_at P s)
  · intro j hj
    show cPlane P s (pos j) = _
    rw [cPlane_at P g hP s ⟨k, by omega⟩ hk hn j hj, hg]
    show _ = BitVec.ofNat 32 (mark j.val (if g.hit ⟨k, hk⟩ ⟨j.val, hj⟩ then (greedy g.hit k).2 else (greedy g.hit k).1 ⟨j.val, hj⟩))
    by_cases hh : g.hit ⟨k, hk⟩ ⟨j.val, hj⟩
    · rw [if_pos hh, if_pos hh, hnum]; unfold mark; rw [if_neg (by omega)]
    · rw [if_neg hh, if_neg hh]; exact I.holds.box j hj
  · intro j hj
    show ∃ w, 5120 ≤ w ∧ w < 20000 ∧ cPlane P s (pos j) = _
    rcases cPlane_or P s j with h | h
    · exact ⟨5119 + (greedy g.hit k).2, by omega, by omega, by rw [h, hnum]⟩
    · rw [h]; exact I.holds.pad j hj
  · show Scalar.addi s.2.1 1#32 = _
    rw [hg, I.num]
    show BitVec.ofNat 32 _ + BitVec.ofNat 32 1 = _
    rw [← BitVec.ofNat_add]
    congr 1
    show _ = (greedy g.hit k).2 + 1 - 1
    omega

theorem run_inv (hself : ∀ i, g.hit i i) {P : Planes Ideal} (hP : Fits P g) :
    ∀ n (s : CState) (k : ℕ), Inv g s k → 5000 ≤ k + n → Inv g (cRun P n s) 5000 := by
  intro n
  induction n with
  | zero =>
    intro s k I h
    have : k = 5000 := by have := I.le; omega
    subst this; exact I
  | succ n ih =>
    intro s k I h
    rw [cRun]
    by_cases hk : k < 5000
    · rw [if_pos ((I.more g).mpr hk)]
      obtain ⟨k', h1, I'⟩ := I.step g hself hP hk
      exact ih _ k' I' (by omega)
    · rw [if_neg (fun hh => hk ((I.more g).mp hh))]
      have : k = 5000 := by have := I.le; omega
      subst this; exact I

/-- The clustering ends with every box's turn taken. -/
theorem clustering_inv (hself : ∀ i, g.hit i i) {P : Planes Ideal} (hP : Fits P g) : Inv g (clustering P) 5000 := by
  obtain ⟨k, I⟩ := inv_init g hself
  exact run_inv g hself hP 5000 cInit k I (by omega)

/-- So the loop has ended, with at most 5000 clusters. -/
theorem clustering_ends (hself : ∀ i, g.hit i i) {P : Planes Ideal} (hP : Fits P g) :
    ¬ cMore (clustering P) ∧ (clustering P).2.1.toNat ≤ 5000 := by
  have I := clustering_inv g hself hP
  refine ⟨fun h => absurd ((I.more g).mp h) (by omega), ?_⟩
  rw [I.num, BitVec.toNat_ofNat]
  have := greedy_cur_le g.hit 5000
  omega

end Cert.Proof.K
end
-- ==== Proof.M.Self.lean ====
/- A box of real numbers with sizes of at least a hundredth meets itself: its overlap with itself is its volume, which is not
   below about a millionth. -/
module

public import proofs.«01_k».proof.Proof.M.Boxes

@[expose] public section

noncomputable section

namespace Cert.Proof.M

open Idealize.ShloMosaic

theorem bits_half : Ideal.ofBits .f32 0x3F000000#32 = ((1 / 2 : ℝ) : EReal) := by
  simp [Ideal.ofBits, Ideal.ieee, -EReal.coe_mul]; norm_num
theorem bits_turn : Ideal.ofBits .f32 0x40C90FDB#32 = ((13176795 / 2097152 : ℝ) : EReal) := by
  simp [Ideal.ofBits, Ideal.ieee, -EReal.coe_mul]; norm_num
theorem bits_size : Ideal.ofBits .f32 0x3C23D70A#32 = ((10737418 / 1073741824 : ℝ) : EReal) := by
  simp [Ideal.ofBits, Ideal.ieee, -EReal.coe_mul]; norm_num
theorem bits_least : Ideal.ofBits .f32 0x358637BD#32 = ((8796093 / 8796093022208 : ℝ) : EReal) := by
  simp [Ideal.ofBits, Ideal.ieee, -EReal.coe_mul]; norm_num
theorem bits_bound : Ideal.ofBits .f32 0x3DCCCCCD#32 = ((13421773 / 134217728 : ℝ) : EReal) := by
  simp [Ideal.ofBits, Ideal.ieee, -EReal.coe_mul]; norm_num

theorem ov_self (a b : ℝ) (h : a ≤ b) : ov (a : EReal) b a b = ((b - a : ℝ) : EReal) := by
  unfold ov
  rw [min_self, max_self, ← EReal.coe_sub, max_eq_left]
  exact_mod_cast sub_nonneg.mpr h

/-- A box with real faces at least a hundredth apart meets itself. -/
theorem hit_self {ι : Type} (g : Geo ι) (i : ι) (X1 X2 Y1 Y2 Z1 Z2 : ℝ) (hx1 : g.x1 i = X1) (hx2 : g.x2 i = X2) (hy1 : g.y1 i = Y1)
    (hy2 : g.y2 i = Y2) (hz1 : g.z1 i = Z1) (hz2 : g.z2 i = Z2) (hx : 10737418 / 1073741824 ≤ X2 - X1) (hy : 10737418 / 1073741824 ≤ Y2 - Y1)
    (hz : 10737418 / 1073741824 ≤ Z2 - Z1) : g.hit i i := by
  have hv : (10737418 / 1073741824) * (10737418 / 1073741824) * (10737418 / 1073741824) ≤ (X2 - X1) * (Y2 - Y1) * (Z2 - Z1) :=
    mul_le_mul (mul_le_mul hx hy (by norm_num) (by linarith)) hz (by norm_num) (mul_nonneg (by linarith) (by linarith))
  have ei : g.inter i i = (((X2 - X1) * (Y2 - Y1) * (Z2 - Z1) : ℝ) : EReal) := by
    unfold Geo.inter
    rw [hx1, hx2, hy1, hy2, hz1, hz2, ov_self _ _ (by linarith), ov_self _ _ (by linarith), ov_self _ _ (by linarith), ← EReal.coe_mul, ← EReal.coe_mul]
  have ev : g.vol i = (((X2 - X1) * (Y2 - Y1) * (Z2 - Z1) : ℝ) : EReal) := by
    unfold Geo.vol
    rw [hx1, hx2, hy1, hy2, hz1, hz2, ← EReal.coe_sub, ← EReal.coe_sub, ← EReal.coe_sub, ← EReal.coe_mul, ← EReal.coe_mul]
  unfold Geo.hit
  rw [ei, ev]
  generalize (X2 - X1) * (Y2 - Y1) * (Z2 - Z1) = v at hv
  have hv0 : 0 < v := lt_of_lt_of_le (by norm_num) hv
  rw [bits_bound, bits_least, ← EReal.coe_add, ← EReal.coe_sub, add_sub_cancel_right, ← EReal.coe_strictMono.monotone.map_max,
    Ideal.div_coe (ne_of_gt (lt_max_of_lt_left hv0)), ← EReal.coe_mul]
  rw [EReal.coe_lt_coe_iff, mul_one_div, lt_div_iff₀ (lt_max_of_lt_left hv0)]
  rcases max_choice v (8796093 / 8796093022208) with e | e <;> rw [e]
  · nlinarith
  · refine lt_of_lt_of_le ?_ hv
    norm_num

theorem abs_real (x : ℝ) : max (x : EReal) (-(x : EReal)) = ((|x| : ℝ) : EReal) := by
  rw [← EReal.coe_neg, ← EReal.coe_strictMono.monotone.map_max]; rfl

/-- The heading in one period is a real number. -/
theorem wrap_real (r : ℝ) : ∃ w : ℝ, wrap r = w := by
  unfold wrap half
  rw [bits_half, bits_turn, Ideal.div_coe (by norm_num), ← EReal.coe_mul, ← EReal.coe_add, Ideal.liftRound_coe, ← EReal.coe_mul, ← EReal.coe_sub]
  exact ⟨_, rfl⟩

theorem one_le_abs (w : ℝ) : 1 ≤ |Real.cos w| + |Real.sin w| := by
  have h := Real.sin_sq_add_cos_sq w
  have a := abs_nonneg (Real.cos w)
  have b := abs_nonneg (Real.sin w)
  rw [← sq_abs (Real.sin w), ← sq_abs (Real.cos w)] at h
  nlinarith [mul_nonneg a b]

theorem span_le (p q d e l : ℝ) (hp : 0 ≤ p) (hq : 0 ≤ q) (h : 1 ≤ p + q) (hl : 0 ≤ l) (hd : l ≤ d) (he : l ≤ e) : l ≤ d * p + e * q := by
  have h1 := mul_le_mul_of_nonneg_right hd hp
  have h2 := mul_le_mul_of_nonneg_right he hq
  have h3 := mul_le_mul_of_nonneg_left h hl
  linarith

theorem self_hit (A : Fin 5000 → Fin 7 → EReal) (hA : Good A) (i : Fin 5000) : (geo A).hit i i := by
  obtain ⟨a0, h0⟩ := hA.real i 0
  obtain ⟨a1, h1⟩ := hA.real i 1
  obtain ⟨a2, h2⟩ := hA.real i 2
  obtain ⟨a3, h3⟩ := hA.real i 3
  obtain ⟨a4, h4⟩ := hA.real i 4
  obtain ⟨a5, h5⟩ := hA.real i 5
  obtain ⟨a6, h6⟩ := hA.real i 6
  have d3 := hA.d3 i
  have d4 := hA.d4 i
  have d5 := hA.d5 i
  rw [h3, bits_size, EReal.coe_le_coe_iff] at d3
  rw [h4, bits_size, EReal.coe_le_coe_iff] at d4
  rw [h5, bits_size, EReal.coe_le_coe_iff] at d5
  obtain ⟨w, hw⟩ := wrap_real a6
  have hc : ca (A i 6) = ((|Real.cos w| : ℝ) : EReal) := by unfold ca; rw [h6, hw, Ideal.cos_coe, abs_real]
  have hs : sa (A i 6) = ((|Real.sin w| : ℝ) : EReal) := by unfold sa; rw [h6, hw, Ideal.sin_coe, abs_real]
  have hcs := one_le_abs w
  have c0 := abs_nonneg (Real.cos w)
  have s0 := abs_nonneg (Real.sin w)
  have gx := span_le _ _ a3 a4 _ c0 s0 hcs (by norm_num) d3 d4
  have gy := span_le _ _ a3 a4 _ s0 c0 (by linarith) (by norm_num) d3 d4
  refine hit_self (geo A) i (a0 - 1 / 2 * (a3 * |Real.cos w| + a4 * |Real.sin w|)) (a0 + 1 / 2 * (a3 * |Real.cos w| + a4 * |Real.sin w|))
    (a1 - 1 / 2 * (a3 * |Real.sin w| + a4 * |Real.cos w|)) (a1 + 1 / 2 * (a3 * |Real.sin w| + a4 * |Real.cos w|))
    (a2 - 1 / 2 * a5) (a2 + 1 / 2 * a5) ?_ ?_ ?_ ?_ ?_ ?_ (by linarith) (by linarith) (by linarith)
  · show A i 0 - half * (A i 3 * ca (A i 6) + A i 4 * sa (A i 6)) = _
    rw [hc, hs, h0, h3, h4, half, bits_half]; norm_cast
  · show A i 0 + half * (A i 3 * ca (A i 6) + A i 4 * sa (A i 6)) = _
    rw [hc, hs, h0, h3, h4, half, bits_half]; norm_cast
  · show A i 1 - half * (A i 3 * sa (A i 6) + A i 4 * ca (A i 6)) = _
    rw [hc, hs, h1, h3, h4, half, bits_half]; norm_cast
  · show A i 1 + half * (A i 3 * sa (A i 6) + A i 4 * ca (A i 6)) = _
    rw [hc, hs, h1, h3, h4, half, bits_half]; norm_cast
  · show A i 2 - half * A i 5 = _
    rw [h2, h5, half, bits_half]; norm_cast
  · show A i 2 + half * A i 5 = _
    rw [h2, h5, half, bits_half]; norm_cast

end Cert.Proof.M
-- ==== Proof.K.Ready.lean ====
/- What the precondition says of the arguments, and that the clustering loop then ends. -/
module

public import proofs.«01_k».proof.Defs
public import proofs.«01_k».proof.Proof.K.Fit
public import proofs.«01_k».proof.Proof.K.Sound
public import proofs.«01_k».proof.Proof.K.Cluster
public import proofs.«01_k».proof.Proof.M.Self

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

theorem one_of {b : Bool} (h : BitVec.ofBool b = 1#1) : b = true := by cases b <;> simp_all

theorem bits_top : Ideal.ofBits .f32 0x7F800000#32 = ⊤ := by
  simp [Ideal.ofBits, Ideal.ieee]

theorem real_of {x : EReal} (h : max x (-x) < Ideal.ofBits .f32 0x7F800000#32) : ∃ r : ℝ, x = r := by
  rw [bits_top, max_lt_iff] at h
  induction x using EReal.rec with
  | bot => simp at h
  | top => simp at h
  | coe r => exact ⟨r, rfl⟩

theorem of_pre [hP : Cert.Pre_in_range.Facts] (A : FVec Ideal S5000x7 .f32) (s : FVec Ideal S5000 .f32)
    (h : (Cert.Pre_in_range.fn (F := Ideal) A s).1 = (fun _ => 1#1) ∧ (Cert.Pre_in_range.fn (F := Ideal) A s).2.1 = (fun _ => 1#1)
      ∧ (Cert.Pre_in_range.fn (F := Ideal) A s).2.2 = (fun _ => 1#1)) :
    Good (rows A) ∧ ∀ i : Fin 5000, 0 ≤ s (ix1 i) := by
  obtain ⟨h1, h2, h3⟩ := h
  have d : ∀ (i : Fin 5000) (k : Fin 3), Ideal.ofBits .f32 0x3C23D70A#32 ≤ A (ix2 i ⟨3 + k.val, by have := k.isLt; omega⟩) := by
    intro i k
    have h := congrFun h2 (ix2 i k)
    unfold Cert.Pre_in_range.fn at h
    pointwise at h
    exact of_decide_eq_true (one_of h)
  refine ⟨⟨?_, fun i => d i 0, fun i => d i 1, fun i => d i 2⟩, ?_⟩
  · intro i k
    have h := congrFun h1 (ix2 i k)
    unfold Cert.Pre_in_range.fn at h
    pointwise at h
    have h' : max (A (ix2 i k)) (-A (ix2 i k)) < Ideal.ofBits .f32 0x7F800000#32 := of_decide_eq_true (one_of h)
    exact real_of h'
  · intro i
    have h := congrFun h3 (ix1 i)
    unfold Cert.Pre_in_range.fn at h
    pointwise at h
    exact of_decide_eq_true (one_of h)

variable (m : (ℓ : Loc nD τ sig) → Buf (Elt Ideal) ℓ)

theorem ends (c : Dev nD) (h : Good (rows (boxes m c))) : Ends m c := by
  unfold Ends finalState
  exact clustering_ends _ (self_hit _ h) (fits m c)

theorem frame_k [hP : Cert.Pre_in_range.Facts] : Cert.quiescent_KernelIdeal := fun m ρ hm =>
  (θ_run defs _ _).mono (fun r h => ⟨fun c =>
      ⟨((h.1 c).2 main_arg0 (Pipeline.mem_restRefs_of main_arg0 (by decide) (by decide))).trans (W_arg0 m (dats m) c),
        ((h.1 c).2 main_arg1 (Pipeline.mem_restRefs_of main_arg1 (by decide) (by decide))).trans (W_arg1 m (dats m) c)⟩, h.2⟩)
    (run m ρ fun c => ends m c (of_pre _ _ (hm c)).1)

end Cert.Proof.K
-- ==== Proof.M.Fuse.lean ====
/- What the fusing step gives for one cluster: how many boxes are in it and the greatest of their scores. -/
module

public import Idealize.ShloMosaic.Lib.PointwiseCore
public import Mathlib.Data.EReal.Basic
public import Mathlib.Data.Finset.Fold
public import Mathlib.Algebra.BigOperators.Fin
public import Mathlib.Algebra.Order.BigOperators.Group.Finset

@[expose] public section

noncomputable section

namespace Cert.Proof.M

/-- The number of boxes of cluster `c + 1`. -/
def cnt (ci : Fin 5000 → ℕ) (c : ℕ) : EReal := ∑ n, if ci n = c + 1 then 1 else 0

/-- The greatest score in cluster `c + 1`, or 0 when the cluster is empty. -/
def best (ci : Fin 5000 → ℕ) (s : Fin 5000 → EReal) (c : ℕ) : EReal :=
  if ∃ n, ci n = c + 1 then Finset.univ.fold max ⊥ (fun n => if ci n = c + 1 then s n else ⊥) else 0

variable (ci : Fin 5000 → ℕ) (c : ℕ)

theorem cnt_nonneg : 0 ≤ cnt ci c := Finset.sum_nonneg fun n _ => by split <;> simp

theorem cnt_pos : 0 < cnt ci c ↔ ∃ n, ci n = c + 1 := by
  constructor
  · intro h
    by_contra hn
    refine absurd h (not_lt.mpr (le_of_eq (Finset.sum_eq_zero fun n _ => if_neg fun e => hn ⟨n, e⟩)))
  · rintro ⟨n, e⟩
    refine lt_of_lt_of_le (zero_lt_one (α := EReal)) ?_
    have h := Finset.single_le_sum (f := fun n => if ci n = c + 1 then (1 : EReal) else 0) (fun n _ => by split <;> simp)
      (Finset.mem_univ n)
    rw [if_pos e] at h
    exact h

/-- An empty cluster. -/
theorem best_none (s : Fin 5000 → EReal) (h : ¬ ∃ n, ci n = c + 1) : best ci s c = 0 := if_neg h
theorem cnt_none (h : ¬ ∃ n, ci n = c + 1) : cnt ci c = 0 :=
  le_antisymm (not_lt.mp fun hh => h ((cnt_pos ci c).mp hh)) (cnt_nonneg ci c)

variable (p : Fin 5120 → Prop) [DecidablePred p] (hp : ∀ (x : Fin 5120) (h : x.val < 5000), p x ↔ ci ⟨x.val, h⟩ = c + 1)
  (hq : ∀ x : Fin 5120, 5000 ≤ x.val → ¬ p x)

include hp hq

/-- The count over the padded rows. -/
theorem cnt_padded (w : Fin 5120 → EReal) (hw : ∀ x, x.val < 5000 → w x = 1) :
    (∑ x, if p x then w x else 0) = cnt ci c := by
  refine (Fin.sum_univ_add (a := 5000) (b := 120) (fun x : Fin 5120 => if p x then w x else 0)).trans ?_
  rw [Finset.sum_eq_zero (s := Finset.univ) (f := fun i : Fin 120 => if p (Fin.natAdd 5000 i) then w (Fin.natAdd 5000 i) else 0)
    (fun i _ => if_neg (hq _ (by show 5000 ≤ 5000 + i.val; omega))), add_zero]
  refine Finset.sum_congr rfl fun i _ => ?_
  have hx : (Fin.castAdd 120 i : Fin 5120).val < 5000 := i.isLt
  by_cases h : ci i = c + 1
  · rw [if_pos h, if_pos ((hp _ hx).mpr h), hw _ hx]
  · rw [if_neg h, if_neg fun hh => h ((hp _ hx).mp hh)]

/-- The greatest score over the padded rows, with zero for the rows outside the cluster. -/
theorem best_padded (s : Fin 5000 → EReal) (hs : ∀ n, 0 ≤ s n) (v : Fin 5120 → EReal) (hv : ∀ (x : Fin 5120) (h : x.val < 5000), v x = s ⟨x.val, h⟩)
    (hm : ∃ n, ci n = c + 1) : Finset.univ.fold max ⊥ (fun x => if p x then v x else 0) = best ci s c := by
  unfold best
  rw [if_pos hm]
  have up : ∀ n, ci n = c + 1 → s n ≤ Finset.univ.fold max ⊥ (fun n => if ci n = c + 1 then s n else ⊥) := fun n e =>
    (Finset.le_fold_max _).mpr (Or.inr ⟨n, Finset.mem_univ n, by rw [if_pos e]⟩)
  apply le_antisymm
  · refine (Finset.fold_max_le _).mpr ⟨bot_le, fun x _ => ?_⟩
    by_cases h : p x
    · have hx : x.val < 5000 := by by_contra hh; exact hq x (by omega) h
      rw [if_pos h, hv x hx]
      exact up _ ((hp x hx).mp h)
    · rw [if_neg h]
      obtain ⟨n, e⟩ := hm
      exact (hs n).trans (up n e)
  · refine (Finset.fold_max_le _).mpr ⟨bot_le, fun n _ => ?_⟩
    by_cases h : ci n = c + 1
    · rw [if_pos h]
      have hn : n.val < 5120 := by have := n.isLt; omega
      refine (Finset.le_fold_max _).mpr (Or.inr ⟨⟨n.val, hn⟩, Finset.mem_univ _, ?_⟩)
      rw [if_pos ((hp ⟨n.val, hn⟩ n.isLt).mpr h), hv ⟨n.val, hn⟩ n.isLt]
    · rw [if_neg h]; exact bot_le

end Cert.Proof.M
-- ==== Proof.K.Fused.lean ====
/- The kernel's output array, lanes 7 and 8: the greatest score of each cluster and how many boxes it has. -/
module

public import proofs.«01_k».proof.Proof.K.Ready
public import proofs.«01_k».proof.Proof.M.Fuse

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

theorem seg_at (a : IVec S8x640 32) (n : Fin 5120) : segRow a (ix2 0 n) = a (pos n) - 5120#32 := by
  rfl

theorem ninf : Ideal.ofBits .f32 4286578688#32 = ⊥ := by
  simp [Ideal.ofBits, Ideal.ieee]

/-- Whether row `x` is in cluster `r` of block `cb`. -/
def isMember (seg : IVec S1x5120 32) (v : IVec S1x5120 1) (cb : BitVec 32) (r : Fin 128) (x : Fin 5120) : BitVec 1 :=
  IntOp.andi (IntOp.cmpi .eq (seg (ix2 0 x)) (IntOp.addi (Scalar.muli cb 128#32) (BitVec.ofNat 32 r.val))) (v (ix2 0 x))

theorem pay59_at (seg : IVec S1x5120 32) (v : IVec S1x5120 1) (w : FVec Ideal S5120x8 .f32) (cb : BitVec 32) (r : Fin 128) :
    k0_pay59 seg v w cb (ix2 r 0) = ∑ x : Fin 5120, Scalar.select (isMember seg v cb r x) (w (ix2 x 0)) (0 : EReal) := by
  pointwise [k0_pay59, k0_pay58, k0_pay56]
  rfl

theorem pay62_at (seg : IVec S1x5120 32) (v : IVec S1x5120 1) (s : FVec Ideal S1x5120 .f32) (cb : BitVec 32) (r : Fin 128) :
    k0_pay62 seg v s cb (ix2 r 0) = Finset.univ.fold max ⊥ (fun x : Fin 5120 => Scalar.select (isMember seg v cb r x) (s (ix2 0 x)) (0 : EReal)) := by
  pointwise [k0_pay62, k0_pay57, k0_pay56]
  rw [ninf]
  rfl

theorem block_8 (R : Rows Ideal) (cb : BitVec 32) (r : Fin 128) :
    (block R cb (ix2 r 8) : EReal) = if 0 < (k0_pay59 R.seg k0_pay43 R.w cb (ix2 r 0) : EReal) then k0_pay59 R.seg k0_pay43 R.w cb (ix2 r 0) else 0 := by
  show k0_pay75 _ _ _ _ _ _ _ _ _ _ _ _ _ = _
  pointwise [k0_pay75]

theorem block_7 (R : Rows Ideal) (cb : BitVec 32) (r : Fin 128) :
    (block R cb (ix2 r 7) : EReal) = if 0 < (k0_pay59 R.seg k0_pay43 R.w cb (ix2 r 0) : EReal) then k0_pay62 R.seg k0_pay43 R.sc cb (ix2 r 0) else 0 := by
  show k0_pay75 _ _ _ _ _ _ _ _ _ _ _ _ _ = _
  pointwise [k0_pay75]
  rfl

theorem pay43_at (n : Fin 5120) : k0_pay43 (ix2 0 n) = BitVec.ofBool (decide (n.val < 5000)) := by
  pointwise [k0_pay43]
  show BitVec.ofBool ((BitVec.ofNat 32 n.val).slt 5000#32) = _
  rw [slt_5000 _ (by have := n.isLt; omega)]

/-- What the second loop reads, of the clusters, their number and the scores. -/
structure Reads (R : Rows Ideal) (ci : Fin 5000 → ℕ) (cu : ℕ) (s : Fin 5000 → EReal) : Prop where
  seg : ∀ (n : Fin 5120) (h : n.val < 5000), R.seg (ix2 0 n) = BitVec.ofNat 32 (5119 + ci ⟨n.val, h⟩) - 5120#32
  range : ∀ n, 1 ≤ ci n ∧ ci n < cu
  le : cu ≤ 5001
  num : R.nseg = BitVec.ofNat 32 (cu - 1)
  w : ∀ n : Fin 5120, n.val < 5000 → (R.w (ix2 n 0) : EReal) = 1
  sc : ∀ (n : Fin 5120) (h : n.val < 5000), (R.sc (ix2 0 n) : EReal) = s ⟨n.val, h⟩
  nonneg : ∀ n, 0 ≤ s n

variable {R : Rows Ideal} {ci : Fin 5000 → ℕ} {cu : ℕ} {s : Fin 5000 → EReal}

theorem Reads.member (H : Reads R ci cu s) (y x : Fin 5120) :
    isMember R.seg k0_pay43 (BitVec.ofNat 32 (y.val / 128)) ⟨y.val % 128, Nat.mod_lt _ (by decide)⟩ x
      = BitVec.ofBool (decide (∃ h : x.val < 5000, ci ⟨x.val, h⟩ = y.val + 1)) := by
  unfold isMember
  rw [pay43_at]
  by_cases h : x.val < 5000
  · have hr := H.range ⟨x.val, h⟩
    have hl := H.le
    have e1 : BitVec.ofNat 32 (5119 + ci ⟨x.val, h⟩) - 5120#32 = BitVec.ofNat 32 (ci ⟨x.val, h⟩ - 1) := by
      rw [show 5119 + ci ⟨x.val, h⟩ = (ci ⟨x.val, h⟩ - 1) + 5120 by omega, BitVec.ofNat_add]
      exact BitVec.add_sub_cancel _ _
    have e2 : IntOp.addi (Scalar.muli (BitVec.ofNat 32 (y.val / 128)) 128#32) (BitVec.ofNat 32 (y.val % 128)) = BitVec.ofNat 32 y.val := by
      show BitVec.ofNat 32 (y.val / 128) * BitVec.ofNat 32 128 + BitVec.ofNat 32 (y.val % 128) = _
      rw [← BitVec.ofNat_mul, ← BitVec.ofNat_add]
      congr 1; omega
    rw [H.seg x h, e1]
    refine (congrArg (fun b : BitVec 32 => IntOp.andi (IntOp.cmpi .eq (BitVec.ofNat 32 (ci ⟨x.val, h⟩ - 1)) b) (BitVec.ofBool (decide (x.val < 5000)))) e2).trans ?_
    have e3 : IntOp.cmpi .eq (BitVec.ofNat 32 (ci ⟨x.val, h⟩ - 1)) (BitVec.ofNat 32 y.val) = BitVec.ofBool (decide (ci ⟨x.val, h⟩ = y.val + 1)) := by
      show BitVec.ofBool (_ == _) = _
      congr 1
      rw [Bool.eq_iff_iff, beq_iff_eq, decide_eq_true_iff, ofNat_inj _ _ (by omega) (by have := y.isLt; omega)]
      omega
    rw [e3]
    by_cases hh : ci ⟨x.val, h⟩ = y.val + 1
    · simp [h, hh, IntOp.andi]
    · simp [h, hh, IntOp.andi]
  · simp [h, IntOp.andi]

theorem Reads.count (H : Reads R ci cu s) (y : Fin 5120) :
    (k0_pay59 R.seg k0_pay43 R.w (BitVec.ofNat 32 (y.val / 128)) (ix2 (⟨y.val % 128, Nat.mod_lt _ (by decide)⟩ : Fin 128) 0) : EReal) = cnt ci y.val := by
  classical
  rw [pay59_at, ← cnt_padded ci y.val (fun x : Fin 5120 => ∃ h : x.val < 5000, ci ⟨x.val, h⟩ = y.val + 1) (fun x h => ⟨fun ⟨_, e⟩ => e, fun e => ⟨h, e⟩⟩)
    (fun x h ⟨h', _⟩ => absurd h' (by omega)) (fun x => R.w (ix2 x 0)) H.w]
  refine Finset.sum_congr rfl fun x _ => ?_
  rw [H.member]
  by_cases h : ∃ h : x.val < 5000, ci ⟨x.val, h⟩ = y.val + 1
  · rw [if_pos h, decide_eq_true h]; rfl
  · rw [if_neg h, decide_eq_false h]; rfl

theorem Reads.top (H : Reads R ci cu s) (y : Fin 5120) (hm : ∃ n, ci n = y.val + 1) :
    (k0_pay62 R.seg k0_pay43 R.sc (BitVec.ofNat 32 (y.val / 128)) (ix2 (⟨y.val % 128, Nat.mod_lt _ (by decide)⟩ : Fin 128) 0) : EReal) = best ci s y.val := by
  classical
  rw [pay62_at, ← best_padded ci y.val (fun x : Fin 5120 => ∃ h : x.val < 5000, ci ⟨x.val, h⟩ = y.val + 1) (fun x h => ⟨fun ⟨_, e⟩ => e, fun e => ⟨h, e⟩⟩)
    (fun x h ⟨h', _⟩ => absurd h' (by omega)) s H.nonneg (fun x => R.sc (ix2 0 x)) H.sc hm]
  refine Finset.fold_congr fun x _ => ?_
  rw [H.member]
  by_cases h : ∃ h : x.val < 5000, ci ⟨x.val, h⟩ = y.val + 1
  · rw [if_pos h, decide_eq_true h]; rfl
  · rw [if_neg h, decide_eq_false h]; rfl

/-- No cluster has a number beyond the blocks that are written. -/
theorem Reads.none (H : Reads R ci cu s) (y : Fin 5120) (h : ¬ y.val < 128 * blocks R) : ¬ ∃ n, ci n = y.val + 1 := by
  rintro ⟨n, e⟩
  have := H.range n
  have := H.le
  unfold blocks at h
  rw [H.num, BitVec.toNat_ofNat] at h
  omega

theorem Reads.lane_8 (H : Reads R ci cu s) (y : Fin 5120) : (outAfter R (blocks R) (ix2 y 8) : EReal) = cnt ci y.val := by
  unfold outAfter
  by_cases h : y.val < 128 * blocks R
  · refine (if_pos h).trans ((block_8 R (BitVec.ofNat 32 (y.val / 128)) ⟨y.val % 128, Nat.mod_lt _ (by decide)⟩).trans ?_)
    rw [H.count y]
    by_cases hp : 0 < cnt ci y.val
    · rw [if_pos hp]
    · rw [if_neg hp]; exact (cnt_none ci y.val fun hh => hp ((cnt_pos ci y.val).mpr hh)).symm
  · refine (if_neg h).trans ?_
    rw [cnt_none ci y.val (H.none y h)]
    pointwise [k0_pay5]

theorem Reads.lane_7 (H : Reads R ci cu s) (y : Fin 5120) : (outAfter R (blocks R) (ix2 y 7) : EReal) = best ci s y.val := by
  unfold outAfter
  by_cases h : y.val < 128 * blocks R
  · refine (if_pos h).trans ((block_7 R (BitVec.ofNat 32 (y.val / 128)) ⟨y.val % 128, Nat.mod_lt _ (by decide)⟩).trans ?_)
    rw [H.count y]
    by_cases hp : 0 < cnt ci y.val
    · rw [if_pos hp]; exact H.top y ((cnt_pos ci y.val).mp hp)
    · rw [if_neg hp]; exact (best_none ci y.val s fun hh => hp ((cnt_pos ci y.val).mpr hh)).symm
  · refine (if_neg h).trans ?_
    rw [best_none ci y.val s (H.none y h)]
    pointwise [k0_pay5]

theorem pay4_at (a : FVec Ideal S5120x8 .f32) (n : Fin 5120) : k0_pay4 (F := Ideal) a (ix2 n 0) = a (ix2 n 0) := by
  pointwise [k0_pay4]

theorem pay45_at (a : FVec Ideal S1x5120 .f32) (n : Fin 5120) : k0_pay45 (F := Ideal) a (ix2 0 n) = a (ix2 0 n) := by
  pointwise [k0_pay45]

/-- The second loop reads the greedy clustering's clusters. -/
theorem reads_of (g : Geo (Fin 5000)) (hself : ∀ i, g.hit i i) {P : Planes Ideal} (hP : Fits P g) (a8 a9 : FVec Ideal S1x5120 .f32) (a10 : FVec Ideal S5120x8 .f32)
    (s : Fin 5000 → EReal) (hw : ∀ n : Fin 5120, n.val < 5000 → (a10 (ix2 n 0) : EReal) = 1)
    (hs : ∀ (n : Fin 5120) (h : n.val < 5000), (a9 (ix2 0 n) : EReal) = s ⟨n.val, h⟩) (h0 : ∀ n, 0 ≤ s n) :
    Reads (rowsOf (clustering P) a8 a9 a10) (greedy g.hit 5000).1 (greedy g.hit 5000).2 s := by
  have I := clustering_inv g hself hP
  generalize clustering P = S at I ⊢
  have hne : ∀ n : Fin 5000, (greedy g.hit 5000).1 n ≠ 0 := fun n => greedy_done g.hit hself 5000 n n.isLt
  refine ⟨fun n h => ?_, fun n => ⟨Nat.one_le_iff_ne_zero.mpr (hne n), greedy_lt g.hit 5000 n⟩, greedy_cur_le g.hit 5000, I.num, fun n h => ?_, fun n h => ?_, h0⟩
  · show segRow S.1 (ix2 0 n) = _
    rw [seg_at, I.holds.box n h]
    unfold mark
    rw [if_neg (hne _)]
  · refine Eq.trans ?_ (hw n h)
    exact pay4_at a10 n
  · refine Eq.trans ?_ (hs n h)
    exact pay45_at a9 n

variable (m : (ℓ : Loc nD τ sig) → Buf (Elt Ideal) ℓ) (c : Dev nD)

theorem ones_at (n : Fin 5120) (h : n.val < 5000) : V m c main_call0_v58 (ix2 n 0) = (1 : EReal) := by
  rw [V_v58, dif_pos h]; rfl

theorem scores_at (n : Fin 5120) (h : n.val < 5000) : V m c main_call0_v35 (ix2 0 n) = scores m c (ix1 ⟨n.val, h⟩) := by
  have e := padded_at (scores m c) n
  rw [dif_pos h] at e
  rw [V_v35]
  generalize padded (scores m c) = q at e ⊢
  rw [← e]
  pointwise

end Cert.Proof.K
-- ==== Proof.M.Mean.lean ====
/- The mean of a box column over a cluster, each box counted with its score. -/
module

public import proofs.«01_k».proof.Proof.M.Fuse
public import proofs.«01_k».proof.Proof.M.Self
public import Idealize.ShloMosaic.Lib.IdealHost

@[expose] public section

noncomputable section

namespace Cert.Proof.M

open Idealize.ShloMosaic

/-- The sum of `v` over cluster `c + 1`. -/
def total (ci : Fin 5000 → ℕ) (v : Fin 5000 → EReal) (c : ℕ) : EReal := ∑ n, if ci n = c + 1 then v n else 0

/-- The least that a sum of scores is divided by. -/
abbrev tiny : EReal := Ideal.ofBits .f32 0x2B8CBCCC#32

/-- The mean of `b` over cluster `c + 1`, weighted by `s`, or 0 when the cluster is empty. -/
def mean (ci : Fin 5000 → ℕ) (s b : Fin 5000 → EReal) (c : ℕ) : EReal :=
  if ∃ n, ci n = c + 1 then Ideal.div (total ci (fun n => s n * b n) c) (max (total ci s c) tiny) else 0

theorem bits_tiny : ∃ t : ℝ, tiny = (t : EReal) ∧ 0 < t := by
  refine ⟨9223372 / 2 ^ 63, ?_, by norm_num⟩
  simp [tiny, Ideal.ofBits, Ideal.ieee, -EReal.coe_mul]; norm_num

variable (ci : Fin 5000 → ℕ) (c : ℕ)

theorem coe_sum (v : Fin 5000 → ℝ) : (∑ n, ((v n : ℝ) : EReal)) = ((∑ n, v n : ℝ) : EReal) := by
  induction (Finset.univ : Finset (Fin 5000)) using Finset.induction_on with
  | empty => rfl
  | insert a t h ih => rw [Finset.sum_insert h, Finset.sum_insert h, ih, EReal.coe_add]

theorem total_coe (v : Fin 5000 → ℝ) : total ci (fun n => (v n : EReal)) c = ((∑ n, if ci n = c + 1 then v n else 0 : ℝ) : EReal) := by
  rw [← coe_sum]
  unfold total
  refine Finset.sum_congr rfl fun n _ => ?_
  split <;> rfl

theorem div_coe (x y : ℝ) (h : y ≠ 0) : Ideal.div (x : EReal) (y : EReal) = ((x / y : ℝ) : EReal) := by
  unfold Ideal.div
  rw [if_neg (EReal.coe_ne_zero.mpr h), ← EReal.coe_inv, ← EReal.coe_mul, div_eq_mul_inv]

/-- Dividing each box's score first gives the same mean, when the scores are real. -/
theorem mean_shares_real (s b : Fin 5000 → EReal) (hs : ∀ n, ∃ r : ℝ, s n = r) (hb : ∀ n, ∃ r : ℝ, b n = r) (w : Fin 5000 → EReal)
    (hw : ∀ n, ci n = c + 1 → w n = total ci s c) (hm : ∃ n, ci n = c + 1) :
    total ci (fun n => b n * Ideal.div (s n) (max (w n) tiny)) c = mean ci s b c := by
  choose sr hs using hs
  choose br hb using hb
  obtain rfl : s = fun n => (sr n : EReal) := funext hs
  obtain rfl : b = fun n => (br n : EReal) := funext hb
  obtain ⟨t, ht, h0⟩ := bits_tiny
  unfold mean
  rw [if_pos hm, ht]
  have hmul : (fun n => (sr n : EReal) * (br n : EReal)) = fun n => ((sr n * br n : ℝ) : EReal) := by
    funext n; rw [EReal.coe_mul]
  rw [hmul, total_coe, total_coe]
  rw [total_coe] at hw
  generalize (∑ n, if ci n = c + 1 then sr n else 0 : ℝ) = W at hw ⊢
  have hd : max ((W : ℝ) : EReal) (t : EReal) = ((max W t : ℝ) : EReal) := by
    rcases le_total W t with h | h
    · rw [max_eq_right h, max_eq_right (EReal.coe_le_coe_iff.mpr h)]
    · rw [max_eq_left h, max_eq_left (EReal.coe_le_coe_iff.mpr h)]
  have hpos : max W t ≠ 0 := ne_of_gt (lt_of_lt_of_le h0 (le_max_right _ _))
  rw [hd, div_coe _ _ hpos, Finset.sum_div, ← coe_sum]
  unfold total
  refine Finset.sum_congr rfl fun n _ => ?_
  by_cases h : ci n = c + 1
  · rw [if_pos h, if_pos h]
    show (br n : EReal) * Ideal.div (sr n : EReal) (max (w n) (t : EReal)) = _
    rw [hw n h, hd, div_coe _ _ hpos, ← EReal.coe_mul]
    congr 1
    ring
  · rw [if_neg h, if_neg h, zero_div]; rfl

theorem total_congr (u v : Fin 5000 → EReal) (h : ∀ n, ci n = c + 1 → u n = v n) : total ci u c = total ci v c := by
  unfold total
  refine Finset.sum_congr rfl fun n _ => ?_
  by_cases hn : ci n = c + 1
  · rw [if_pos hn, if_pos hn, h n hn]
  · rw [if_neg hn, if_neg hn]

theorem div_top (x : EReal) : Ideal.div x ⊤ = 0 := by
  unfold Ideal.div
  rw [if_neg EReal.top_ne_zero, EReal.inv_top, mul_zero]

/-- Dividing each box's score first gives the same mean. Where a score is infinite both are zero. -/
theorem mean_shares (s b : Fin 5000 → EReal) (hs : ∀ n, 0 ≤ s n) (hb : ∀ n, ∃ r : ℝ, b n = r) (w : Fin 5000 → EReal)
    (hw : ∀ n, ci n = c + 1 → w n = total ci s c) (hm : ∃ n, ci n = c + 1) :
    total ci (fun n => b n * Ideal.div (s n) (max (w n) tiny)) c = mean ci s b c := by
  by_cases ht : total ci s c = ⊤
  · unfold mean
    rw [if_pos hm, ht, max_eq_left le_top, div_top, total_congr ci c _ (fun _ => 0) fun n hn => by rw [hw n hn, ht, max_eq_left le_top, div_top, mul_zero]]
    exact Finset.sum_eq_zero fun n _ => by split <;> rfl
  · have hle : ∀ n, ci n = c + 1 → s n ≤ total ci s c := fun n hn => by
      have h := Finset.single_le_sum (f := fun n => if ci n = c + 1 then s n else 0) (fun n _ => by split; exacts [hs n, le_refl _]) (Finset.mem_univ n)
      rwa [if_pos hn] at h
    have e : ∀ n, ci n = c + 1 → s n = if ci n = c + 1 then s n else 0 := fun n hn => (if_pos hn).symm
    have hr : ∀ n, ∃ r : ℝ, (if ci n = c + 1 then s n else 0 : EReal) = r := fun n => by
      by_cases hn : ci n = c + 1
      · rw [if_pos hn]
        exact ⟨(s n).toReal, (EReal.coe_toReal (fun h => ht (top_le_iff.mp (h ▸ hle n hn))) (ne_of_gt (lt_of_lt_of_le EReal.bot_lt_zero (hs n)))).symm⟩
      · rw [if_neg hn]; exact ⟨0, rfl⟩
    have h := mean_shares_real ci c (fun n => if ci n = c + 1 then s n else 0) b hr hb w (fun n hn => (hw n hn).trans (total_congr ci c _ _ e)) hm
    unfold mean at h ⊢
    rw [if_pos hm] at h ⊢
    rw [total_congr ci c s _ e, total_congr ci c (fun n => s n * b n) _ fun n hn => by rw [e n hn], ← h]
    exact total_congr ci c _ _ fun n hn => by rw [← e n hn]

theorem mean_none (s b : Fin 5000 → EReal) (h : ¬ ∃ n, ci n = c + 1) : mean ci s b c = 0 := if_neg h

theorem tiny_ne (x : EReal) : max x tiny ≠ 0 := by
  obtain ⟨t, ht, h0⟩ := bits_tiny
  rw [ht]
  exact ne_of_gt (lt_of_lt_of_le (EReal.coe_pos.mpr h0) (le_max_right _ _))

variable (p : Fin 5120 → Prop) [DecidablePred p] (hp : ∀ (x : Fin 5120) (h : x.val < 5000), p x ↔ ci ⟨x.val, h⟩ = c + 1)
  (hq : ∀ x : Fin 5120, 5000 ≤ x.val → ¬ p x)

include hp hq

/-- A sum over the padded rows. -/
theorem total_padded (w : Fin 5120 → EReal) (v : Fin 5000 → EReal) (hw : ∀ (x : Fin 5120) (h : x.val < 5000), w x = v ⟨x.val, h⟩) :
    (∑ x, if p x then w x else 0) = total ci v c := by
  refine (Fin.sum_univ_add (a := 5000) (b := 120) (fun x : Fin 5120 => if p x then w x else 0)).trans ?_
  rw [Finset.sum_eq_zero (s := Finset.univ) (f := fun i : Fin 120 => if p (Fin.natAdd 5000 i) then w (Fin.natAdd 5000 i) else 0)
    (fun i _ => if_neg (hq _ (by show 5000 ≤ 5000 + i.val; omega))), add_zero]
  refine Finset.sum_congr rfl fun i _ => ?_
  have hx : (Fin.castAdd 120 i : Fin 5120).val < 5000 := i.isLt
  by_cases h : ci i = c + 1
  · rw [if_pos h, if_pos ((hp _ hx).mpr h), hw _ hx]; rfl
  · rw [if_neg h, if_neg fun hh => h ((hp _ hx).mp hh)]

end Cert.Proof.M
-- ==== Proof.K.Mean.lean ====
/- The kernel's output array, lanes 0 to 5: the weighted means of each cluster's box columns. -/
module

public import proofs.«01_k».proof.Proof.K.Fused
public import proofs.«01_k».proof.Proof.M.Mean

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

theorem pay60_at (seg : IVec S1x5120 32) (v : IVec S1x5120 1) (w : FVec Ideal S5120x8 .f32) (cb : BitVec 32) (r : Fin 128) :
    k0_pay60 seg v w cb (ix2 r 0) = ∑ x : Fin 5120, Scalar.select (isMember seg v cb r x) (w (ix2 x 1)) (0 : EReal) := by
  pointwise [k0_pay60, k0_pay58, k0_pay56]
  rfl

theorem pay61_at (seg : IVec S1x5120 32) (v : IVec S1x5120 1) (s : FVec Ideal S1x5120 .f32) (w : FVec Ideal S5120x8 .f32) (cb : BitVec 32) (r : Fin 128) (k : Fin 8) :
    k0_pay61 seg v s w cb (ix2 r k) = ∑ x : Fin 5120, Scalar.select (isMember seg v cb r x) (s (ix2 0 x) * w (ix2 x k)) (0 : EReal) := by
  pointwise [k0_pay61, k0_pay57, k0_pay56]
  rfl

section
variable (a : FVec Ideal S128x1 .f32) (b : FVec Ideal S128x8 .f32) (r : Fin 128)
theorem pay67_at : (k0_pay67 a b (ix2 r 0) : EReal) = b (ix2 r 2) * Ideal.div 1 (max (a (ix2 r 0)) tiny) := by
  pointwise [k0_pay67, k0_pay66]
theorem pay68_at : (k0_pay68 a b (ix2 r 0) : EReal) = b (ix2 r 3) * Ideal.div 1 (max (a (ix2 r 0)) tiny) := by
  pointwise [k0_pay68, k0_pay66]
theorem pay69_at : (k0_pay69 a b (ix2 r 0) : EReal) = b (ix2 r 4) * Ideal.div 1 (max (a (ix2 r 0)) tiny) := by
  pointwise [k0_pay69, k0_pay66]
theorem pay70_at : (k0_pay70 a b (ix2 r 0) : EReal) = b (ix2 r 5) * Ideal.div 1 (max (a (ix2 r 0)) tiny) := by
  pointwise [k0_pay70, k0_pay66]
theorem pay71_at : (k0_pay71 a b (ix2 r 0) : EReal) = b (ix2 r 6) * Ideal.div 1 (max (a (ix2 r 0)) tiny) := by
  pointwise [k0_pay71, k0_pay66]
theorem pay72_at : (k0_pay72 a b (ix2 r 0) : EReal) = b (ix2 r 7) * Ideal.div 1 (max (a (ix2 r 0)) tiny) := by
  pointwise [k0_pay72, k0_pay66]
end

section
variable (R : Rows Ideal) (cb : BitVec 32) (r : Fin 128)

theorem block_0 : (block R cb (ix2 r 0) : EReal) = if 0 < (k0_pay59 R.seg k0_pay43 R.w cb (ix2 r 0) : EReal)
    then k0_pay67 (k0_pay60 R.seg k0_pay43 R.w cb) (k0_pay61 R.seg k0_pay43 R.sc R.w cb) (ix2 r 0) else 0 := by
  show k0_pay75 _ _ _ _ _ _ _ _ _ _ _ _ _ = _
  pointwise [k0_pay75]
  rfl
theorem block_1 : (block R cb (ix2 r 1) : EReal) = if 0 < (k0_pay59 R.seg k0_pay43 R.w cb (ix2 r 0) : EReal)
    then k0_pay68 (k0_pay60 R.seg k0_pay43 R.w cb) (k0_pay61 R.seg k0_pay43 R.sc R.w cb) (ix2 r 0) else 0 := by
  show k0_pay75 _ _ _ _ _ _ _ _ _ _ _ _ _ = _
  pointwise [k0_pay75]
  rfl
theorem block_2 : (block R cb (ix2 r 2) : EReal) = if 0 < (k0_pay59 R.seg k0_pay43 R.w cb (ix2 r 0) : EReal)
    then k0_pay69 (k0_pay60 R.seg k0_pay43 R.w cb) (k0_pay61 R.seg k0_pay43 R.sc R.w cb) (ix2 r 0) else 0 := by
  show k0_pay75 _ _ _ _ _ _ _ _ _ _ _ _ _ = _
  pointwise [k0_pay75]
  rfl
theorem block_3 : (block R cb (ix2 r 3) : EReal) = if 0 < (k0_pay59 R.seg k0_pay43 R.w cb (ix2 r 0) : EReal)
    then k0_pay70 (k0_pay60 R.seg k0_pay43 R.w cb) (k0_pay61 R.seg k0_pay43 R.sc R.w cb) (ix2 r 0) else 0 := by
  show k0_pay75 _ _ _ _ _ _ _ _ _ _ _ _ _ = _
  pointwise [k0_pay75]
  rfl
theorem block_4 : (block R cb (ix2 r 4) : EReal) = if 0 < (k0_pay59 R.seg k0_pay43 R.w cb (ix2 r 0) : EReal)
    then k0_pay71 (k0_pay60 R.seg k0_pay43 R.w cb) (k0_pay61 R.seg k0_pay43 R.sc R.w cb) (ix2 r 0) else 0 := by
  show k0_pay75 _ _ _ _ _ _ _ _ _ _ _ _ _ = _
  pointwise [k0_pay75]
  rfl
theorem block_5 : (block R cb (ix2 r 5) : EReal) = if 0 < (k0_pay59 R.seg k0_pay43 R.w cb (ix2 r 0) : EReal)
    then k0_pay72 (k0_pay60 R.seg k0_pay43 R.w cb) (k0_pay61 R.seg k0_pay43 R.sc R.w cb) (ix2 r 0) else 0 := by
  show k0_pay75 _ _ _ _ _ _ _ _ _ _ _ _ _ = _
  pointwise [k0_pay75]
  rfl

theorem block_mean (k : Fin 6) : (block R cb (ix2 r ⟨k.val, by have := k.isLt; omega⟩) : EReal)
    = if 0 < (k0_pay59 R.seg k0_pay43 R.w cb (ix2 r 0) : EReal) then
        k0_pay61 R.seg k0_pay43 R.sc R.w cb (ix2 r ⟨k.val + 2, by have := k.isLt; omega⟩) * Ideal.div 1 (max (k0_pay60 R.seg k0_pay43 R.w cb (ix2 r 0)) tiny) else 0 := by
  match k with
  | ⟨0, _⟩ => exact (block_0 R cb r).trans (if_congr Iff.rfl (pay67_at _ _ r) rfl)
  | ⟨1, _⟩ => exact (block_1 R cb r).trans (if_congr Iff.rfl (pay68_at _ _ r) rfl)
  | ⟨2, _⟩ => exact (block_2 R cb r).trans (if_congr Iff.rfl (pay69_at _ _ r) rfl)
  | ⟨3, _⟩ => exact (block_3 R cb r).trans (if_congr Iff.rfl (pay70_at _ _ r) rfl)
  | ⟨4, _⟩ => exact (block_4 R cb r).trans (if_congr Iff.rfl (pay71_at _ _ r) rfl)
  | ⟨5, _⟩ => exact (block_5 R cb r).trans (if_congr Iff.rfl (pay72_at _ _ r) rfl)
end

variable {R : Rows Ideal} {ci : Fin 5000 → ℕ} {cu : ℕ} {s : Fin 5000 → EReal}

/-- A sum over the rows of a cluster. -/
theorem Reads.total (H : Reads R ci cu s) (y : Fin 5120) (w : Fin 5120 → EReal) (v : Fin 5000 → EReal)
    (hw : ∀ (x : Fin 5120) (h : x.val < 5000), w x = v ⟨x.val, h⟩) :
    (∑ x : Fin 5120, Scalar.select (isMember R.seg k0_pay43 (BitVec.ofNat 32 (y.val / 128)) ⟨y.val % 128, Nat.mod_lt _ (by decide)⟩ x) (w x) (0 : EReal)) = M.total ci v y.val := by
  classical
  rw [← total_padded ci y.val (fun x : Fin 5120 => ∃ h : x.val < 5000, ci ⟨x.val, h⟩ = y.val + 1) (fun x h => ⟨fun ⟨_, e⟩ => e, fun e => ⟨h, e⟩⟩)
    (fun x h ⟨h', _⟩ => absurd h' (by omega)) w v hw]
  refine Finset.sum_congr rfl fun x _ => ?_
  rw [H.member]
  by_cases h : ∃ h : x.val < 5000, ci ⟨x.val, h⟩ = y.val + 1
  · rw [if_pos h, decide_eq_true h]; rfl
  · rw [if_neg h, decide_eq_false h]; rfl

theorem Reads.lane (H : Reads R ci cu s) (y : Fin 5120) (k : Fin 6) (b : Fin 5000 → EReal)
    (h1 : ∀ (x : Fin 5120) (h : x.val < 5000), (R.w (ix2 x 1) : EReal) = s ⟨x.val, h⟩)
    (hb : ∀ (x : Fin 5120) (h : x.val < 5000), (R.w (ix2 x ⟨k.val + 2, by have := k.isLt; omega⟩) : EReal) = b ⟨x.val, h⟩) :
    (outAfter R (blocks R) (ix2 y ⟨k.val, by have := k.isLt; omega⟩) : EReal) = mean ci s b y.val := by
  unfold outAfter
  by_cases h : y.val < 128 * blocks R
  · refine (if_pos h).trans ((block_mean R (BitVec.ofNat 32 (y.val / 128)) ⟨y.val % 128, Nat.mod_lt _ (by decide)⟩ k).trans ?_)
    rw [H.count y]
    by_cases hp : 0 < cnt ci y.val
    · rw [if_pos hp, Ideal.mul_one_div (tiny_ne _), pay60_at, pay61_at, H.total y _ s h1, H.total y _ (fun n => s n * b n) fun x h => by rw [H.sc x h, hb x h]]
      exact (if_pos ((cnt_pos ci y.val).mp hp)).symm
    · rw [if_neg hp]; exact (mean_none ci y.val s b fun hh => hp ((cnt_pos ci y.val).mpr hh)).symm
  · refine (if_neg h).trans ?_
    rw [mean_none ci y.val s b (H.none y h)]
    pointwise [k0_pay5]

theorem pay4_read (a : FVec Ideal S5120x8 .f32) (n : Fin 5120) (k : Fin 8) : k0_pay4 (F := Ideal) a (ix2 n k) = a (ix2 n k) := by
  pointwise [k0_pay4]

theorem rows_w (S : CState) (a8 a9 : FVec Ideal S1x5120 .f32) (a10 : FVec Ideal S5120x8 .f32) (n : Fin 5120) (k : Fin 8) :
    (rowsOf (F := Ideal) S a8 a9 a10).w (ix2 n k) = a10 (ix2 n k) := pay4_read a10 n k

variable (m : (ℓ : Loc nD τ sig) → Buf (Elt Ideal) ℓ) (c : Dev nD)

theorem column_1 (S : CState) (n : Fin 5120) (h : n.val < 5000) :
    ((rowsOf (F := Ideal) S (V m c main_call0_v33) (V m c main_call0_v35) (V m c main_call0_v58)).w (ix2 n 1) : EReal) = scores m c (ix1 ⟨n.val, h⟩) := by
  refine (rows_w S _ _ _ n 1).trans ?_
  rw [V_v58, dif_pos h]; rfl

theorem column_box (S : CState) (n : Fin 5120) (h : n.val < 5000) (k : Fin 6) :
    ((rowsOf (F := Ideal) S (V m c main_call0_v33) (V m c main_call0_v35) (V m c main_call0_v58)).w (ix2 n ⟨k.val + 2, by have := k.isLt; omega⟩) : EReal)
      = boxes m c (ix2 ⟨n.val, h⟩ ⟨k.val, by have := k.isLt; omega⟩) := by
  refine (rows_w S _ _ _ n _).trans ?_
  rw [V_v58, dif_pos h]
  fin_cases k <;> rfl

end Cert.Proof.K
-- ==== Proof.K.Out.lean ====
/- The kernel's results on each core. -/
module

public import proofs.«01_k».proof.Proof.K.Mean

@[expose] public section

set_option maxRecDepth 65536

noncomputable section

namespace Cert.Proof.K

open Cert.KernelIdeal Cert.KernelIdeal.Gen Cert.Proof.M
open Idealize.ShloMosaic Idealize.ShloMosaic.TcCoe Idealize.ShloMosaic.Tactic

variable (m : (ℓ : Loc nD τ sig) → Buf (Elt Ideal) ℓ) (c : Dev nD)

/-- The clusters on core `c`. -/
abbrev clusters : Fin 5000 → ℕ := (greedy (geo (rows (boxes m c))).hit 5000).1

variable (hA : Good (rows (boxes m c))) (hs : ∀ i : Fin 5000, 0 ≤ scores m c (ix1 i))
include hA hs

theorem out_reads : Reads (rowsOf (finalState m c) (V m c main_call0_v33) (V m c main_call0_v35) (V m c main_call0_v58)) (clusters m c)
    (greedy (geo (rows (boxes m c))).hit 5000).2 (fun n => scores m c (ix1 n)) := by
  unfold finalState
  exact reads_of _ (self_hit _ hA) (fits m c) _ _ _ _ (fun n h => ones_at m c n h) (fun n h => scores_at m c n h) hs

theorem out_7 (y : Fin 5120) : finalOut m c (ix2 y 7) = best (clusters m c) (fun n => scores m c (ix1 n)) y.val := by
  have h := out_reads m c hA hs
  unfold finalOut kernelOut
  unfold finalState at h
  exact h.lane_7 y

theorem out_8 (y : Fin 5120) : finalOut m c (ix2 y 8) = cnt (clusters m c) y.val := by
  have h := out_reads m c hA hs
  unfold finalOut kernelOut
  unfold finalState at h
  exact h.lane_8 y

theorem out_mean (y : Fin 5120) (k : Fin 6) : finalOut m c (ix2 y ⟨k.val, by have := k.isLt; omega⟩)
    = mean (clusters m c) (fun n => scores m c (ix1 n)) (fun n => boxes m c (ix2 n ⟨k.val, by have := k.isLt; omega⟩)) y.val := by
  have h := out_reads m c hA hs
  unfold finalOut kernelOut
  unfold finalState at h
  exact h.lane y k _ (fun x hx => column_1 m c _ x hx) (fun x hx => column_box m c _ x hx k)

end Cert.Proof.K
-- ==== Proof.K.Tail.lean ====
/- The host's operations after the kernel: each result is a lane of the output array. -/
module

public import proofs.«01_k».proof.Proof.K.Run
public import Idealize.ShloMosaic.Lib.Pointwise
public import Idealize.ShloMosaic.Lib.StableHlo.RunRead

@[expose] public section

set_option maxRecDepth 65536

noncomputable section

namespace Cert.Proof.K

open Cert.KernelIdeal Cert.KernelIdeal.Gen
open Idealize.ShloMosaic Idealize.ShloMosaic.TcCoe Idealize.ShloMosaic.Tactic

/-- A lane of the output array, the padding rows cut off. -/
abbrev lane (O : FVec Ideal S5120x16 .f32) (k : ℕ) (h : S5120x16.Slices ![0, k] S5000x1) : FVec Ideal S5000 .f32 :=
  shapeCast S5000 (extractStridedSlice S5000x1 ![0, k] O h) shapeCasts_S5000x1_S5000

theorem lane_at (O : FVec Ideal S5120x16 .f32) (k : ℕ) (hk : k < 16) (h : S5120x16.Slices ![0, k] S5000x1) (i : Fin 5000) :
    lane O k h (ix1 i) = O (ix2 ⟨i.val, by have := i.isLt; omega⟩ ⟨k, hk⟩) := by
  unfold lane
  pointwise

variable (m : (ℓ : Loc nD τ sig) → Buf (Elt Ideal) ℓ) (c : Dev nD)

theorem array_11 : Pipeline.withArrays (cfgs (F := Ideal) 0).spec c (V0 m c) (fun w => (dats m 0 c).arrAt w (cfgs (F := Ideal) 0).N) (Proc.devRef .tc main_call0_v59)
    = finalOut m c :=
  (Pipeline.withArrays_arr (cfgs (F := Ideal) 0).spec (by decide) c (V0 m c) (fun w => (dats m 0 c).arrAt w (cfgs (F := Ideal) 0).N) (11 : Fin 12)).trans (arrAt_11 m c)

/-- The first six lanes of the output array, the padding rows cut off. -/
abbrev six (O : FVec Ideal S5120x16 .f32) : FVec Ideal S5000x6 .f32 := extractStridedSlice S5000x6 ![0, 0] O slices_S5120x16_S5000x6_0_0

theorem six_at (O : FVec Ideal S5120x16 .f32) (i : Fin 5000) (k : Fin 6) :
    six O (ix2 i k) = O (ix2 ⟨i.val, by have := i.isLt; omega⟩ ⟨k.val, by have := k.isLt; omega⟩) := by
  unfold six
  pointwise

theorem tail_0 : Pipeline.afterTail₀ (cfgs (F := Ideal)) (dats m) 0 (V0 m) [hostOps1] c main_v0_0 = six (finalOut m c) := by
  unfold Pipeline.afterTail₀
  simp only [List.flatten_cons, List.flatten_nil, List.append_nil, hostOps1]
  after_reads_simp
  exact congrArg six (array_11 m c)

theorem tail_1 : Pipeline.afterTail₀ (cfgs (F := Ideal)) (dats m) 0 (V0 m) [hostOps1] c main_v0_1 = lane (finalOut m c) 7 slices_S5120x16_S5000x1_0_7 := by
  unfold Pipeline.afterTail₀
  simp only [List.flatten_cons, List.flatten_nil, List.append_nil, hostOps1]
  after_reads_simp
  exact congrArg (fun O : FVec Ideal S5120x16 .f32 => lane O 7 slices_S5120x16_S5000x1_0_7) (array_11 m c)

theorem tail_2 : Pipeline.afterTail₀ (cfgs (F := Ideal)) (dats m) 0 (V0 m) [hostOps1] c main_v0_2 = lane (finalOut m c) 8 slices_S5120x16_S5000x1_0_8 := by
  unfold Pipeline.afterTail₀
  simp only [List.flatten_cons, List.flatten_nil, List.append_nil, hostOps1]
  after_reads_simp
  exact congrArg (fun O : FVec Ideal S5120x16 .f32 => lane O 8 slices_S5120x16_S5000x1_0_8) (array_11 m c)

end Cert.Proof.K
-- ==== Proof.R.Entry.lean ====
/- What the reference's loop starts from: the relation between the boxes that its mask holds. -/
module

public import proofs.«01_k».proof.Proof.Gen.ReferenceIdeal.Run
public import proofs.«01_k».proof.Proof.M.Boxes
public import Idealize.ShloMosaic.Lib.Pointwise
public import Idealize.ShloMosaic.Lib.StableHlo.RunRead
public import Idealize.ShloMosaic.Lib.Routing.OpsSet
public import Idealize.ShloMosaic.Lib.Routing.OpsOne

@[expose] public section

set_option maxRecDepth 65536

noncomputable section

namespace Cert.Proof.R

open Cert.ReferenceIdeal Cert.ReferenceIdeal.Gen Cert.ReferenceIdeal.Value Cert.Proof.M
open Idealize.ShloMosaic Idealize.ShloMosaic.TcCoe Idealize.ShloMosaic.Tactic Idealize.ShloMosaic.StableHlo

/-- A scalar spread over the boxes. -/
abbrev all (w : BitVec 32) : FVec Ideal S5000 .f32 := broadcastInDim S5000 ![] bcast_S_S5000 (constant (F := Ideal) S_ .f32 w)
/-- A scalar spread over the pairs of boxes. -/
abbrev all2 (w : BitVec 32) : FVec Ideal S5000x5000 .f32 := broadcastInDim S5000x5000 ![] bcast_S_S5000x5000 (constant (F := Ideal) S_ .f32 w)
/-- A vector along the rows of the pairs. -/
abbrev down (v : FVec Ideal S5000 .f32) : FVec Ideal S5000x5000 .f32 :=
  broadcastInDim S5000x5000 ![0, 1] bcast_S5000x1_S5000x5000_0_1 (broadcastInDim S5000x1 ![0] bcast_S5000_S5000x1_0 v)
/-- A vector along the columns of the pairs. -/
abbrev across (v : FVec Ideal S5000 .f32) : FVec Ideal S5000x5000 .f32 :=
  broadcastInDim S5000x5000 ![0, 1] bcast_S1x5000_S5000x5000_0_1 (broadcastInDim S1x5000 ![1] bcast_S5000_S1x5000_1 v)
/-- A column of the rows. -/
abbrev col (A : FVec Ideal S5000x7 .f32) (k : ℕ) (h : S5000x7.Slices ![0, k] S5000x1) : FVec Ideal S5000 .f32 :=
  shapeCast S5000 (extractStridedSlice S5000x1 ![0, k] A h) shapeCasts_S5000x1_S5000

/-- The heading brought into one period. -/
def heading (A : FVec Ideal S5000x7 .f32) : FVec Ideal S5000 .f32 :=
  subf (col A 6 slices_S5000x7_S5000x1_0_6) (mulf (Host.floor (addf (Host.divf (col A 6 slices_S5000x7_S5000x1_0_6) (all 0x40C90FDB#32)) (all 0x3F000000#32))) (all 0x40C90FDB#32))
/-- The rows with the heading so replaced. -/
def turned (A : FVec Ideal S5000x7 .f32) : FVec Ideal S5000x7 .f32 :=
  Host.scatter scatter_S5000x7_S1_S5000_0_1_1_0 (fun _ b => b) A (broadcastInDim S1 ![] bcast_S_S1 (constantI S_ 32 6#32)) (heading A)
/-- Half the envelope's extent along the first axis, of the rows so replaced. -/
def hx (B : FVec Ideal S5000x7 .f32) : FVec Ideal S5000 .f32 :=
  mulf (all 0x3F000000#32) (addf (mulf (col B 3 slices_S5000x7_S5000x1_0_3) (Host.absf (Host.cos (col B 6 slices_S5000x7_S5000x1_0_6))))
    (mulf (col B 4 slices_S5000x7_S5000x1_0_4) (Host.absf (Host.sin (col B 6 slices_S5000x7_S5000x1_0_6)))))
/-- Half its extent along the second. -/
def hy (B : FVec Ideal S5000x7 .f32) : FVec Ideal S5000 .f32 :=
  mulf (all 0x3F000000#32) (addf (mulf (col B 3 slices_S5000x7_S5000x1_0_3) (Host.absf (Host.sin (col B 6 slices_S5000x7_S5000x1_0_6))))
    (mulf (col B 4 slices_S5000x7_S5000x1_0_4) (Host.absf (Host.cos (col B 6 slices_S5000x7_S5000x1_0_6)))))
/-- Half its extent along the third. -/
def hz (B : FVec Ideal S5000x7 .f32) : FVec Ideal S5000 .f32 := mulf (all 0x3F000000#32) (col B 5 slices_S5000x7_S5000x1_0_5)

/-- The overlaps along one axis. -/
def over (a b : FVec Ideal S5000 .f32) : FVec Ideal S5000x5000 .f32 :=
  maximumf (subf (minimumf (down b) (across b)) (maximumf (down a) (across a))) (all2 0x00000000#32)
/-- The overlaps' volumes. -/
def meets (x1 x2 y1 y2 z1 z2 : FVec Ideal S5000 .f32) : FVec Ideal S5000x5000 .f32 :=
  mulf (mulf (over x1 x2) (over y1 y2)) (over z1 z2)
/-- The envelopes' volumes. -/
def vols (x1 x2 y1 y2 z1 z2 : FVec Ideal S5000 .f32) : FVec Ideal S5000 .f32 :=
  mulf (mulf (subf x2 x1) (subf y2 y1)) (subf z2 z1)
/-- The mask, of the overlaps' and the envelopes' volumes. -/
def masks (I : FVec Ideal S5000x5000 .f32) (v : FVec Ideal S5000 .f32) : IVec S5000x5000 1 :=
  cmpf .ogt (Host.divf I (maximumf (subf (addf (down v) (across v)) I) (all2 0x358637BD#32))) (all2 0x3DCCCCCD#32)
/-- The mask, of the faces. -/
def maskOf (x1 x2 y1 y2 z1 z2 : FVec Ideal S5000 .f32) : IVec S5000x5000 1 :=
  masks (meets x1 x2 y1 y2 z1 z2) (vols x1 x2 y1 y2 z1 z2)
/-- The mask, of the rows. -/
def mask (A : FVec Ideal S5000x7 .f32) : IVec S5000x5000 1 :=
  let B := turned A
  maskOf (subf (col B 0 slices_S5000x7_S5000x1_0_0) (hx B)) (addf (col B 0 slices_S5000x7_S5000x1_0_0) (hx B))
    (subf (col B 1 slices_S5000x7_S5000x1_0_1) (hy B)) (addf (col B 1 slices_S5000x7_S5000x1_0_1) (hy B))
    (subf (col B 2 slices_S5000x7_S5000x1_0_2) (hz B)) (addf (col B 2 slices_S5000x7_S5000x1_0_2) (hz B))

variable (m : (ℓ : Loc nD τ sig) → Buf (Elt Ideal) ℓ)

set_option maxHeartbeats 4000000 in
theorem entry_mask (c : Dev nD) : entryContents preI m c (Proc.devRef .tc main_v109_1) = mask (m ((c.tc : Thread nD τ).loc main_arg0)) := by
  simp only [entryContents, afterL_cons, afterL_nil, preI, hostOps0]
  after_reads_simp
  rfl

end Cert.Proof.R
-- ==== Proof.R.Mask.lean ====
/- The mask, element by element: it holds the relation the clustering is over. -/
module

public import proofs.«01_k».proof.Proof.R.Entry

@[expose] public section

set_option maxRecDepth 65536

noncomputable section

namespace Cert.Proof.R

open Cert.ReferenceIdeal Cert.ReferenceIdeal.Gen Cert.ReferenceIdeal.Value Cert.Proof.M
open Idealize.ShloMosaic Idealize.ShloMosaic.TcCoe Idealize.ShloMosaic.Tactic

/-- The rows of an array of boxes. -/
def rows (A : FVec Ideal S5000x7 .f32) : Fin 5000 → Fin 7 → EReal := fun i k => A (ix2 i k)

theorem col_at (A : FVec Ideal S5000x7 .f32) (k : ℕ) (hk : k < 7) (h : S5000x7.Slices ![0, k] S5000x1) (i : Fin 5000) :
    col A k h (ix1 i) = A (ix2 i ⟨k, hk⟩) := by
  unfold col
  pointwise

theorem heading_at (A : FVec Ideal S5000x7 .f32) (i : Fin 5000) : heading A (ix1 i) = wrap (rows A i 6) := by
  have h := col_at A 6 (by decide) slices_S5000x7_S5000x1_0_6 i
  show col A 6 slices_S5000x7_S5000x1_0_6 (ix1 i) - Ideal.liftRound Int.floor (Ideal.div (col A 6 slices_S5000x7_S5000x1_0_6 (ix1 i)) (Ideal.ofBits .f32 0x40C90FDB#32) + Ideal.ofBits .f32 0x3F000000#32) * Ideal.ofBits .f32 0x40C90FDB#32 = _
  rw [h]; rfl

theorem turned_at (A : FVec Ideal S5000x7 .f32) (i : Fin 5000) (e : Fin 7) :
    turned A (ix2 i e) = if e = 6 then wrap (rows A i 6) else rows A i e := by
  have hd : ∀ (w' w : Fin 5000) (e : Fin 7), scatter_S5000x7_S1_S5000_0_1_1_0.resultIdx? (ix1 w') (broadcastInDim S1 ![] bcast_S_S1 (constantI S_ 32 6#32)) = some (ix2 w e)
      ↔ w' = w ∧ e = 6 := fun w' w e =>
    Routing.lands_col (A := 5000) (N := 7) scatter_S5000x7_S1_S5000_0_1_1_0 rfl rfl (broadcastInDim S1 ![] bcast_S_S1 (constantI S_ 32 6#32)) 6 (by rfl) w' w e
  have lands : ∀ j : S5000.Idx, scatter_S5000x7_S1_S5000_0_1_1_0.resultIdx? j (broadcastInDim S1 ![] bcast_S_S1 (constantI S_ 32 6#32)) = some (ix2 i e) → j 0 = i ∧ e = 6 :=
    fun j hj => (hd (j 0) i e).1 ((congrArg (fun t => scatter_S5000x7_S1_S5000_0_1_1_0.resultIdx? t _) (by funext a; obtain rfl : a = 0 := Subsingleton.elim _ _; rfl)).trans hj)
  unfold turned
  by_cases h : e = 6
  · rw [if_pos h, ← heading_at]
    refine Routing.scatter_set_hit _ A _ (heading A) _ _ (fun j hj => ?_) (ix1 i) ((hd i i e).2 ⟨rfl, h⟩)
    congr 1
    funext a; obtain rfl : a = 0 := Subsingleton.elim _ _
    exact (lands j hj).1
  · rw [if_neg h]
    exact Routing.scatter_set_miss _ A _ (heading A) _ fun j hj => h (lands j hj).2

/-- The relation from the faces. -/
theorem maskOf_at (x1 x2 y1 y2 z1 z2 : FVec Ideal S5000 .f32) (g : Geo (Fin 5000)) (h1 : ∀ i : Fin 5000, x1 (ix1 i) = g.x1 i) (h2 : ∀ i : Fin 5000, x2 (ix1 i) = g.x2 i)
    (h3 : ∀ i : Fin 5000, y1 (ix1 i) = g.y1 i) (h4 : ∀ i : Fin 5000, y2 (ix1 i) = g.y2 i) (h5 : ∀ i : Fin 5000, z1 (ix1 i) = g.z1 i)
    (h6 : ∀ i : Fin 5000, z2 (ix1 i) = g.z2 i) (i j : Fin 5000) : maskOf x1 x2 y1 y2 z1 z2 (ix2 i j) = BitVec.ofBool (decide (g.hit i j)) := by
  have ho : ∀ a b : FVec Ideal S5000 .f32, over a b (ix2 i j) = ov (a (ix1 i)) (b (ix1 i)) (a (ix1 j)) (b (ix1 j)) := by
    intro a b
    unfold over down across all2 ov
    pointwise
  have hI : meets x1 x2 y1 y2 z1 z2 (ix2 i j) = g.inter j i := by
    rw [g.inter_comm]
    show over x1 x2 (ix2 i j) * over y1 y2 (ix2 i j) * over z1 z2 (ix2 i j) = _
    rw [ho, ho, ho, h1, h2, h3, h4, h5, h6, h1, h2, h3, h4, h5, h6]
    rfl
  have hv : ∀ i : Fin 5000, vols x1 x2 y1 y2 z1 z2 (ix1 i) = g.vol i := by
    intro i
    show (x2 (ix1 i) - x1 (ix1 i)) * (y2 (ix1 i) - y1 (ix1 i)) * (z2 (ix1 i) - z1 (ix1 i)) = _
    rw [h1, h2, h3, h4, h5, h6]
    rfl
  unfold maskOf masks
  generalize meets x1 x2 y1 y2 z1 z2 = I at hI
  generalize vols x1 x2 y1 y2 z1 z2 = v at hv
  unfold down across all2
  pointwise
  rw [hI, hv, hv, add_comm (g.vol i)]
  exact congrArg BitVec.ofBool (decide_eq_decide.mpr Iff.rfl)

theorem sub_at (a b : FVec Ideal S5000 .f32) (i : Fin 5000) : subf a b (ix1 i) = a (ix1 i) - b (ix1 i) := rfl
theorem add_at (a b : FVec Ideal S5000 .f32) (i : Fin 5000) : addf a b (ix1 i) = a (ix1 i) + b (ix1 i) := rfl

variable (B : FVec Ideal S5000x7 .f32) (i : Fin 5000)

theorem hx_at (r : EReal) (h : B (ix2 i 6) = wrap r) : hx B (ix1 i) = half * (B (ix2 i 3) * ca r + B (ix2 i 4) * sa r) := by
  have h3 := col_at B 3 (by decide) slices_S5000x7_S5000x1_0_3 i
  have h4 := col_at B 4 (by decide) slices_S5000x7_S5000x1_0_4 i
  have h6 := (col_at B 6 (by decide) slices_S5000x7_S5000x1_0_6 i).trans h
  unfold hx ca sa half
  generalize col B 3 slices_S5000x7_S5000x1_0_3 = x3 at h3 ⊢
  generalize col B 4 slices_S5000x7_S5000x1_0_4 = x4 at h4 ⊢
  generalize col B 6 slices_S5000x7_S5000x1_0_6 = x6 at h6 ⊢
  show Ideal.ofBits .f32 0x3F000000#32 * (x3 (ix1 i) * max (Ideal.cos (x6 (ix1 i))) (-Ideal.cos (x6 (ix1 i))) + x4 (ix1 i) * max (Ideal.sin (x6 (ix1 i))) (-Ideal.sin (x6 (ix1 i)))) = _
  rw [h3, h4, h6]
  rfl

theorem hy_at (r : EReal) (h : B (ix2 i 6) = wrap r) : hy B (ix1 i) = half * (B (ix2 i 3) * sa r + B (ix2 i 4) * ca r) := by
  have h3 := col_at B 3 (by decide) slices_S5000x7_S5000x1_0_3 i
  have h4 := col_at B 4 (by decide) slices_S5000x7_S5000x1_0_4 i
  have h6 := (col_at B 6 (by decide) slices_S5000x7_S5000x1_0_6 i).trans h
  unfold hy ca sa half
  generalize col B 3 slices_S5000x7_S5000x1_0_3 = x3 at h3 ⊢
  generalize col B 4 slices_S5000x7_S5000x1_0_4 = x4 at h4 ⊢
  generalize col B 6 slices_S5000x7_S5000x1_0_6 = x6 at h6 ⊢
  show Ideal.ofBits .f32 0x3F000000#32 * (x3 (ix1 i) * max (Ideal.sin (x6 (ix1 i))) (-Ideal.sin (x6 (ix1 i))) + x4 (ix1 i) * max (Ideal.cos (x6 (ix1 i))) (-Ideal.cos (x6 (ix1 i)))) = _
  rw [h3, h4, h6]
  rfl

theorem hz_at : hz B (ix1 i) = half * B (ix2 i 5) := by
  have h5 := col_at B 5 (by decide) slices_S5000x7_S5000x1_0_5 i
  unfold hz half
  generalize col B 5 slices_S5000x7_S5000x1_0_5 = x5 at h5 ⊢
  show Ideal.ofBits .f32 0x3F000000#32 * x5 (ix1 i) = _
  rw [h5]
  rfl

/-- The mask of the rows holds the relation of the boxes. -/
theorem mask_at (A : FVec Ideal S5000x7 .f32) (i j : Fin 5000) : mask A (ix2 i j) = BitVec.ofBool (decide ((geo (rows A)).hit i j)) := by
  have hB : ∀ (i : Fin 5000) (e : Fin 7), e ≠ 6 → turned A (ix2 i e) = rows A i e := fun i e h => (turned_at A i e).trans (if_neg h)
  have B6 : ∀ i : Fin 5000, turned A (ix2 i 6) = wrap (rows A i 6) := fun i => (turned_at A i 6).trans (if_pos rfl)
  unfold mask
  generalize turned A = B at hB B6
  generalize rows A = a at hB B6
  have c0 : ∀ i : Fin 5000, col B 0 slices_S5000x7_S5000x1_0_0 (ix1 i) = a i 0 := fun i => (col_at B 0 (by decide) _ i).trans (hB i 0 (by decide))
  have c1 : ∀ i : Fin 5000, col B 1 slices_S5000x7_S5000x1_0_1 (ix1 i) = a i 1 := fun i => (col_at B 1 (by decide) _ i).trans (hB i 1 (by decide))
  have c2 : ∀ i : Fin 5000, col B 2 slices_S5000x7_S5000x1_0_2 (ix1 i) = a i 2 := fun i => (col_at B 2 (by decide) _ i).trans (hB i 2 (by decide))
  have ex : ∀ i : Fin 5000, hx B (ix1 i) = half * (a i 3 * ca (a i 6) + a i 4 * sa (a i 6)) := fun i => by
    rw [hx_at B i _ (B6 i), hB i 3 (by decide), hB i 4 (by decide)]
  have ey : ∀ i : Fin 5000, hy B (ix1 i) = half * (a i 3 * sa (a i 6) + a i 4 * ca (a i 6)) := fun i => by
    rw [hy_at B i _ (B6 i), hB i 3 (by decide), hB i 4 (by decide)]
  have ez : ∀ i : Fin 5000, hz B (ix1 i) = half * a i 5 := fun i => by
    rw [hz_at B i, hB i 5 (by decide)]
  generalize col B 0 slices_S5000x7_S5000x1_0_0 = x0 at c0
  generalize col B 1 slices_S5000x7_S5000x1_0_1 = x1 at c1
  generalize col B 2 slices_S5000x7_S5000x1_0_2 = x2 at c2
  generalize hx B = wx at ex
  generalize hy B = wy at ey
  generalize hz B = wz at ez
  refine maskOf_at _ _ _ _ _ _ (geo a) ?_ ?_ ?_ ?_ ?_ ?_ i j <;> intro i
  · rw [sub_at, c0, ex]; rfl
  · rw [add_at, c0, ex]; rfl
  · rw [sub_at, c1, ey]; rfl
  · rw [add_at, c1, ey]; rfl
  · rw [sub_at, c2, ez]; rfl
  · rw [add_at, c2, ez]; rfl

end Cert.Proof.R
-- ==== Proof.R.Post.lean ====
/- What the reference makes of the clusters after its loop, element by element. -/
module

public import proofs.«01_k».proof.Proof.Gen.ReferenceIdeal.Run
public import proofs.«01_k».proof.Proof.M.Fuse
public import Idealize.ShloMosaic.Lib.Pointwise
public import Idealize.ShloMosaic.Lib.Routing.Ops
public import Idealize.ShloMosaic.Lib.Routing.OpsOrder

@[expose] public section

set_option maxRecDepth 65536

noncomputable section

namespace Cert.Proof.R

open Cert.ReferenceIdeal Cert.ReferenceIdeal.Gen Cert.ReferenceIdeal.Value Cert.Proof.M
open Idealize.ShloMosaic Idealize.ShloMosaic.TcCoe Idealize.ShloMosaic.Tactic

theorem toInt_small (w : ℕ) (h : w < 20000) : (BitVec.ofNat 32 w).toInt = w := by
  have e : (BitVec.ofNat 32 w).toNat = w := by rw [BitVec.toNat_ofNat]; omega
  rw [BitVec.toInt_eq_toNat_of_lt (by rw [e]; omega), e]

theorem ofNat_iff (v w : ℕ) (hv : v < 20000) (hw : w < 20000) : BitVec.ofNat 32 v = BitVec.ofNat 32 w ↔ v = w := by
  constructor
  · intro h
    have := congrArg BitVec.toInt h
    rw [toInt_small v hv, toInt_small w hw] at this
    omega
  · rintro rfl; rfl

theorem sub_one (w : ℕ) (h : 1 ≤ w) : BitVec.ofNat 32 w - 1#32 = BitVec.ofNat 32 (w - 1) := by
  conv_lhs => rw [show w = (w - 1) + 1 by omega, BitVec.ofNat_add]
  exact BitVec.add_sub_cancel _ _

theorem ninf : Ideal.ofBits .f32 4286578688#32 = ⊥ := by
  simp [Ideal.ofBits, Ideal.ieee]

/-- The sum of ones over the updates of one cluster. -/
theorem scatter_cnt (idx : IVec S5000x1 32) (x : FVec Ideal S5000 .f32) (u : FVec Ideal S5000 .f32) (cn : Fin 5000 → ℕ)
    (hi : ∀ n : Fin 5000, (idx (ix2 n 0)).toInt = ((cn n - 1 : ℕ) : ℤ)) (h1 : ∀ n, 1 ≤ cn n) (c : Fin 5000) (hx : x (ix1 c) = 0)
    (hu : ∀ n : Fin 5000, u (ix1 n) = 1) :
    Ideal.hostScatterAdd scatter_S5000_S5000x1_S5000_n_0_0_1 x idx u (ix1 c) = cnt cn c.val := by
  unfold Ideal.hostScatterAdd cnt
  rw [hx, zero_add, Finset.sum_filter]
  let e : Fin 5000 ≃ S5000.Idx := ⟨fun n => ix1 n, fun j => j 0, fun _ => rfl, fun j => by funext a; obtain rfl : a = 0 := Subsingleton.elim _ _; rfl⟩
  rw [← Equiv.sum_comp e]
  refine Finset.sum_congr rfl fun n _ => ?_
  show (if scatter_S5000_S5000x1_S5000_n_0_0_1.resultIdx? (ix1 n) idx = some (ix1 c) then u (ix1 n) else 0) = _
  have hl : scatter_S5000_S5000x1_S5000_n_0_0_1.resultIdx? (ix1 n) idx = some (ix1 c) ↔ (idx (ix2 n 0)).toInt = (c.val : ℤ) :=
    Routing.scatter_lands_signed (N := 5000) scatter_S5000_S5000x1_S5000_n_0_0_1 rfl rfl rfl idx n c
  rw [hi n] at hl
  have := h1 n
  by_cases h : cn n = c.val + 1
  · rw [if_pos h, if_pos (hl.mpr (by omega)), hu n]
  · rw [if_neg h, if_neg fun hh => h (by have := hl.mp hh; omega)]

variable (ci : IVec S5000 32) (cn : Fin 5000 → ℕ) (hc : ∀ n : Fin 5000, ci (ix1 n) = BitVec.ofNat 32 (cn n))
  (h1 : ∀ n, 1 ≤ cn n ∧ cn n ≤ 5000) (V0 : Valuation τ sig (Elt Ideal)) (h3 : V0 (Proc.devRef .tc main_v109_3) = ci)

include hc h1 h3

theorem cnt_at (c : Fin 5000) : (out_main_v115 V0 (ix1 c) : EReal) = cnt cn c.val := by
  unfold out_main_v115
  rw [h3]
  refine scatter_cnt _ _ _ cn ?_ (fun n => (h1 n).1) c ?_ ?_
  · intro n
    pointwise
    show (ci (ix1 n) - 1#32).toInt = _
    rw [hc, sub_one _ (h1 n).1, toInt_small _ (by have := h1 n; omega)]
  · pointwise
  · intro n
    pointwise

theorem best_at (s : FVec Ideal S5000 .f32) (hs : V0 (Proc.devRef .tc main_arg1) = s) (c : Fin 5000) :
    (out_main_v149 V0 (ix1 c) : EReal) = best cn (fun n => s (ix1 n)) c.val := by
  unfold out_main_v149
  rw [h3, hs]
  pointwise
  have hm : ∀ n : Fin 5000, IntOp.cmpi CmpIPredicate.eq (IntOp.subi (ci (ix1 n)) 1#32) (BitVec.ofNat 32 c.val)
      = BitVec.ofBool (decide (cn n = c.val + 1)) := by
    intro n
    show BitVec.ofBool (ci (ix1 n) - 1#32 == _) = _
    rw [hc, sub_one _ (h1 n).1]
    congr 1
    rw [Bool.eq_iff_iff, beq_iff_eq, decide_eq_true_iff, ofNat_iff _ _ (by have := h1 n; omega) (by have := c.isLt; omega)]
    have := h1 n
    omega
  simp only [hm, ninf]
  have hor := Routing.fold_ori (s := Finset.univ) (p := fun n : Fin 5000 => BitVec.ofBool (decide (cn n = c.val + 1)))
  unfold best
  by_cases hh : ∃ n, cn n = c.val + 1
  · rw [if_pos hh, hor.mpr (by obtain ⟨n, e⟩ := hh; exact ⟨n, Finset.mem_univ n, by simp [e]⟩)]
    refine (if_pos rfl).trans ?_
    refine Finset.fold_congr fun n _ => ?_
    by_cases e : cn n = c.val + 1
    · rw [if_pos e]; simp [e, Scalar.select]
    · rw [if_neg e]; simp [e, Scalar.select]
  · rw [if_neg hh]
    refine (if_neg fun h => hh ?_)
    obtain ⟨n, _, e⟩ := hor.mp h
    refine ⟨n, ?_⟩
    by_contra hne
    simp [hne] at e

end Cert.Proof.R
-- ==== Proof.R.Turn.lean ====
/- One turn of the reference's loop, element by element. -/
module

public import proofs.«01_k».proof.Proof.R.Post
public import proofs.«01_k».proof.Proof.M.Greedy
public import Idealize.ShloMosaic.Lib.DynamicIndex

@[expose] public section

set_option maxRecDepth 65536

noncomputable section

namespace Cert.Proof.R

open Cert.ReferenceIdeal Cert.ReferenceIdeal.Gen Cert.ReferenceIdeal.Value Cert.Proof.M
open Idealize.ShloMosaic Idealize.ShloMosaic.TcCoe Idealize.ShloMosaic.Tactic

/-- One entry of a vector, read at a known place. -/
theorem read_one (x : IVec S5000 32) (start : Fin 1 → ℤ) (k : Fin 5000) (hs : start 0 = (k.val : ℤ)) (z : S_.Idx) :
    shapeCast S_ (Host.dynamicSlice S1 x start sliceFits_S5000_S1) shapeCasts_S1_S_ z = x (ix1 k) := by
  have hoff : S5000.Slices (fun _ : Fin 1 => k.val) S1 := ⟨rfl, fun a => by
    obtain rfl : a = 0 := Subsingleton.elim _ _
    show k.val + 1 ≤ 5000
    have := k.isLt; omega⟩
  rw [Host.dynamicSlice_eq_extractStridedSlice S1 x start (fun _ => k.val) sliceFits_S5000_S1 hoff
    (fun a => by obtain rfl : a = 0 := Subsingleton.elim _ _; exact hs)]
  unfold shapeCast extractStridedSlice
  congr 1
  funext a
  obtain rfl : a = 0 := Subsingleton.elim _ _
  exact Fin.ext (by
    show k.val + _ = k.val
    have : ∀ i : S1.Idx, (i 0).val = 0 := fun i => by have := (i 0).isLt; change _ < 1 at this; omega
    have h := this (Shape.reshapeEquiv shapeCasts_S1_S_ z)
    show k.val + (Shape.reshapeEquiv shapeCasts_S1_S_ z 0).val = k.val
    rw [h, Nat.add_zero])

/-- One row of a matrix, read at a known place. -/
theorem read_row (x : IVec S5000x5000 1) (start : Fin 2 → ℤ) (k : Fin 5000) (h0 : start 0 = (k.val : ℤ)) (h1 : start 1 = 0) (j : Fin 5000) :
    shapeCast S5000 (Host.dynamicSlice S1x5000 x start sliceFits_S5000x5000_S1x5000) shapeCasts_S1x5000_S5000 (ix1 j) = x (ix2 k j) := by
  have hoff : S5000x5000.Slices ![k.val, 0] S1x5000 := ⟨rfl, fun a => by
    match a with
    | ⟨0, _⟩ => show k.val + 1 ≤ 5000; have := k.isLt; omega
    | ⟨1, _⟩ => show 0 + 5000 ≤ 5000; omega⟩
  rw [Host.dynamicSlice_eq_extractStridedSlice S1x5000 x start ![k.val, 0] sliceFits_S5000x5000_S1x5000 hoff
    (fun a => by
      match a with
      | ⟨0, _⟩ => exact h0
      | ⟨1, _⟩ => exact h1)]
  pointwise

/-- The index a program makes of a small number is that number. -/
theorem start_of (w : IVec S_ 32) (k : ℕ) (hk : k < 20000) (hw : w = fun _ => BitVec.ofNat 32 k) (z : S_.Idx) :
    (select (cmpi .slt w (constantI S_ 32 0#32)) (addi w (constantI S_ 32 5000#32)) w z).toInt = (k : ℤ) := by
  subst hw
  rw [select_slt_zero_of_nonneg _ _ _ z (by rw [toInt_small k hk]; omega)]
  exact toInt_small k hk

/-- The loop's contents: the boxes' numbers, the relation, the turn's number, and the clusters so far. -/
structure Has (V0 : Valuation τ sig (Elt Ideal)) (R : Fin 5000 → Fin 5000 → Prop) [∀ i j, Decidable (R i j)] (k : ℕ) (g : (Fin 5000 → ℕ) × ℕ) : Prop where
  io : ∃ io : IVec S5000 32, V0 (Proc.devRef .tc main_v109_0) = io ∧ ∀ i : Fin 5000, io (ix1 i) = BitVec.ofNat 32 i.val
  rel : ∃ M : IVec S5000x5000 1, V0 (Proc.devRef .tc main_v109_1) = M ∧ ∀ i j : Fin 5000, M (ix2 i j) = BitVec.ofBool (decide (R i j))
  num : V0 (Proc.devRef .tc main_v109_2) = ((fun _ => BitVec.ofNat 32 k) : IVec S_ 32)
  ci : ∃ ci : IVec S5000 32, V0 (Proc.devRef .tc main_v109_3) = ci ∧ ∀ i : Fin 5000, ci (ix1 i) = BitVec.ofNat 32 (g.1 i)
  cur : V0 (Proc.devRef .tc main_v109_4) = ((fun _ => BitVec.ofNat 32 g.2) : IVec S_ 32)

variable {V0 : Valuation τ sig (Elt Ideal)} {R : Fin 5000 → Fin 5000 → Prop} [∀ i j, Decidable (R i j)] {k : ℕ} {g : (Fin 5000 → ℕ) × ℕ}

theorem Has.v130 (H : Has V0 R k g) (hk : k < 5000) : (res_main_while0b_v154 V0 : IVec S_ 32) = fun _ => BitVec.ofNat 32 k := by
  obtain ⟨io, h0, hio⟩ := H.io
  funext z
  unfold res_main_while0b_v154
  rw [h0, H.num]
  exact (read_one io _ ⟨k, hk⟩ (toInt_small k (by omega)) z).trans (hio ⟨k, hk⟩)

theorem Has.v136 (H : Has V0 R k g) (hk : k < 5000) (hg : ∀ i, g.1 i < 20000) :
    (res_main_while0b_v160 V0 : IVec S_ 1) = fun _ => BitVec.ofBool (decide (g.1 ⟨k, hk⟩ = 0)) := by
  obtain ⟨ci, h3, hci⟩ := H.ci
  funext z
  unfold res_main_while0b_v160
  rw [h3]
  have e := read_one ci (fun k => (((![select (cmpi .slt (res_main_while0b_v154 V0) (constantI S_ 32 0#32)) (addi (res_main_while0b_v154 V0) (constantI S_ 32 5000#32)) (res_main_while0b_v154 V0)] : Fin 1 → IVec S_ 32)) k (Shape.Idx.first h_S_)).toInt)
    ⟨k, hk⟩ (start_of _ k (by omega) (H.v130 hk) _) z
  show BitVec.ofBool (_ == 0#32) = _
  refine (congrArg (fun w : BitVec 32 => BitVec.ofBool (w == 0#32)) (e.trans (hci ⟨k, hk⟩))).trans ?_
  show BitVec.ofBool (_ == BitVec.ofNat 32 0) = _
  congr 1
  rw [Bool.eq_iff_iff, beq_iff_eq, decide_eq_true_iff, ofNat_iff _ _ (hg _) (by omega)]

/-- One turn. -/
theorem Has.step (H : Has V0 R k g) (hk : k < 5000) (hg : ∀ i, g.1 i < 20000) : Has (STEP V0) R (k + 1) (turn R ⟨k, hk⟩ g) := by
  have e136 := H.v136 hk hg
  have e130 := H.v130 hk
  refine ⟨?_, ?_, ?_, ?_, ?_⟩
  · obtain ⟨io, h0, hio⟩ := H.io
    exact ⟨io, (STEP_main_v109_0 V0).trans h0, hio⟩
  · obtain ⟨M, h, hM⟩ := H.rel
    exact ⟨M, (STEP_main_v109_1 V0).trans h, hM⟩
  · refine (STEP_main_v109_2 V0).trans ?_
    unfold step_main_v109_2
    rw [H.num]
    funext z
    show BitVec.ofNat 32 k + BitVec.ofNat 32 1 = _
    rw [← BitVec.ofNat_add]
  · obtain ⟨M, h1, hM⟩ := H.rel
    obtain ⟨ci, h3, hci⟩ := H.ci
    refine ⟨step_main_v109_3 V0, STEP_main_v109_3 V0, fun j => ?_⟩
    unfold step_main_v109_3
    rw [h1, h3, H.cur]
    have e := read_row M (fun k => (((![select (cmpi .slt (res_main_while0b_v154 V0) (constantI S_ 32 0#32)) (addi (res_main_while0b_v154 V0) (constantI S_ 32 5000#32)) (res_main_while0b_v154 V0), select (cmpi .slt (constantI S_ 32 0#32) (constantI S_ 32 0#32)) (addi (constantI S_ 32 0#32) (constantI S_ 32 5000#32)) (constantI S_ 32 0#32)] : Fin 2 → IVec S_ 32)) k (Shape.Idx.first h_S_)).toInt)
      ⟨k, hk⟩ (start_of _ k (by omega) e130 _) (start_of (constantI S_ 32 0#32) 0 (by omega) rfl (Shape.Idx.first h_S_)) j
    have e' : (res_main_while0b_v160 V0 : IVec S_ 1) (Shape.Idx.first h_S_) = _ := congrFun e136 _
    show Scalar.select (IntOp.andi (broadcastInDim S5000 ![] bcast_S_S5000 (res_main_while0b_v160 V0 : IVec S_ 1) (ix1 j)) _) (BitVec.ofNat 32 g.2) (ci (ix1 j)) = _
    refine (congrArg₂ (fun a b : BitVec 1 => Scalar.select (IntOp.andi a b) (BitVec.ofNat 32 g.2) (ci (ix1 j)))
      (congrFun e136 _ : _ = BitVec.ofBool (decide (g.1 ⟨k, hk⟩ = 0))) (e.trans (hM ⟨k, hk⟩ j))).trans ?_
    rw [hci]
    unfold turn
    by_cases h0 : g.1 ⟨k, hk⟩ = 0
    · rw [if_pos h0]
      by_cases hr : R ⟨k, hk⟩ j
      · simp [h0, hr, Scalar.select, IntOp.andi]
      · simp [h0, hr, Scalar.select, IntOp.andi]
    · rw [if_neg h0]
      by_cases hr : R ⟨k, hk⟩ j
      · simp [h0, hr, Scalar.select, IntOp.andi]
      · simp [h0, hr, Scalar.select, IntOp.andi]
  · refine (STEP_main_v109_4 V0).trans ?_
    unfold step_main_v109_4
    rw [H.cur]
    funext z
    show BitVec.ofNat 32 g.2 + ((res_main_while0b_v160 V0 : IVec S_ 1) z).setWidth 32 = _
    refine (congrArg (fun b : BitVec 1 => BitVec.ofNat 32 g.2 + b.setWidth 32) (congrFun e136 z)).trans ?_
    unfold turn
    by_cases h0 : g.1 ⟨k, hk⟩ = 0
    · rw [if_pos h0]
      simp only [h0, decide_true]
      show BitVec.ofNat 32 g.2 + BitVec.ofNat 32 1 = _
      rw [← BitVec.ofNat_add]
    · rw [if_neg h0]
      simp only [h0, decide_false]
      exact BitVec.add_zero _

/-- Every turn up to `k`. -/
theorem Has.iter (H : Has V0 R 0 (greedy R 0)) : ∀ k, k ≤ 5000 → Has (STEP^[k] V0) R k (greedy R k)
  | 0, _ => H
  | k + 1, hk => by
    rw [Function.iterate_succ_apply', greedy_succ R k (by omega)]
    refine (Has.iter H k (by omega)).step (by omega) fun i => ?_
    have := greedy_lt R k i
    have := greedy_cur_le R k
    omega

end Cert.Proof.R
-- ==== Proof.R.Final.lean ====
/- The reference's results: the number of boxes of each cluster of the greedy clustering, and the greatest score in it. -/
module

public import proofs.«01_k».proof.Proof.R.Mask
public import proofs.«01_k».proof.Proof.R.Turn
public import proofs.«01_k».proof.Proof.M.Self

@[expose] public section

set_option maxRecDepth 65536

noncomputable section

namespace Cert.Proof.R

open Cert.ReferenceIdeal Cert.ReferenceIdeal.Gen Cert.ReferenceIdeal.Value Cert.Proof.M
open Idealize.ShloMosaic Idealize.ShloMosaic.TcCoe Idealize.ShloMosaic.Tactic Idealize.ShloMosaic.StableHlo

variable (m : (ℓ : Loc nD τ sig) → Buf (Elt Ideal) ℓ) (c : Dev nD)

/-- The boxes on core `c`. -/
abbrev boxes : FVec Ideal S5000x7 .f32 := m ((c.tc : Thread nD τ).loc main_arg0)
/-- Their scores. -/
abbrev scores : FVec Ideal S5000 .f32 := m ((c.tc : Thread nD τ).loc main_arg1)

set_option maxHeartbeats 4000000 in
theorem entry_io : entryContents preI m c (Proc.devRef .tc main_v109_0) = iotaInDim S5000 32 0 := by
  simp only [entryContents, afterL_cons, afterL_nil, preI, hostOps0]
  after_reads_simp
  rfl

set_option maxHeartbeats 4000000 in
theorem entry_ci : entryContents preI m c (Proc.devRef .tc main_v109_3) = (broadcastInDim S5000 ![] bcast_S_S5000 (constantI S_ 32 0#32) : IVec S5000 32) := by
  simp only [entryContents, afterL_cons, afterL_nil, preI, hostOps0]
  after_reads_simp
  rfl

set_option maxHeartbeats 4000000 in
theorem entry_cur : entryContents preI m c (Proc.devRef .tc main_v109_4) = constantI S_ 32 1#32 := by
  simp only [entryContents, afterL_cons, afterL_nil, preI, hostOps0]
  after_reads_simp
  rfl

/-- The loop starts with no box in a cluster. -/
theorem entry_has : Has (entryContents preI m c) (geo (rows (boxes m c))).hit 0 (greedy (geo (rows (boxes m c))).hit 0) :=
  ⟨⟨_, entry_io m c, fun i => by pointwise⟩, ⟨_, entry_mask m c, fun i j => mask_at (boxes m c) i j⟩, (ctr_entry m c).trans rfl,
    ⟨_, entry_ci m c, fun i => rfl⟩, (entry_cur m c).trans rfl⟩

/-- The clusters on core `c`. -/
abbrev clusters : Fin 5000 → ℕ := (greedy (geo (rows (boxes m c))).hit 5000).1

variable (hA : Good (rows (boxes m c)))
include hA

theorem clusters_range (n : Fin 5000) : 1 ≤ clusters m c n ∧ clusters m c n ≤ 5000 := by
  have h1 := greedy_done (geo (rows (boxes m c))).hit (self_hit _ hA) 5000 n n.isLt
  have h2 := greedy_lt (geo (rows (boxes m c))).hit 5000 n
  have h3 := greedy_cur_le (geo (rows (boxes m c))).hit 5000
  exact ⟨Nat.one_le_iff_ne_zero.mpr h1, by show (greedy _ 5000).1 n ≤ 5000; omega⟩

theorem counts_at (k : Fin 5000) : (out_main_v115 (STEP^[5000] (entryContents preI m c)) (ix1 k) : EReal) = cnt (clusters m c) k.val := by
  obtain ⟨ci, h3, hci⟩ := ((entry_has m c).iter 5000 (le_refl _)).ci
  exact cnt_at ci (clusters m c) hci (clusters_range m c hA) _ h3 k

theorem scores_at (k : Fin 5000) :
    (out_main_v149 (STEP^[5000] (entryContents preI m c)) (ix1 k) : EReal) = best (clusters m c) (fun n => scores m c (ix1 n)) k.val := by
  obtain ⟨ci, h3, hci⟩ := ((entry_has m c).iter 5000 (le_refl _)).ci
  exact best_at ci (clusters m c) hci (clusters_range m c hA) _ h3 _ (iter_main_arg1 m c 5000) k

end Cert.Proof.R
-- ==== Proof.R.Mean.lean ====
/- The reference's weighted means of each cluster's box columns. -/
module

public import proofs.«01_k».proof.Proof.R.Final
public import proofs.«01_k».proof.Proof.M.Mean
public import Idealize.ShloMosaic.Lib.Routing.OpsPair
public import Idealize.ShloMosaic.Lib.Routing.OpsSet

@[expose] public section

set_option maxRecDepth 65536

noncomputable section

namespace Cert.Proof.R

open Cert.ReferenceIdeal Cert.ReferenceIdeal.Gen Cert.ReferenceIdeal.Value Cert.Proof.M
open Idealize.ShloMosaic Idealize.ShloMosaic.TcCoe Idealize.ShloMosaic.Tactic

abbrev scRow := scatter_S5000x6_S5000x1_S5000x6_1_0_0_1

theorem row_start0 (idx : IVec S5000x1 32) (n : Fin 5000) (j : Fin 6) : scRow.start (ix2 n j) idx 0 = (idx (ix2 n 0)).toInt := by
  unfold ScatterDims.start
  rw [dif_pos (by decide)]
  congr 2
  funext a
  fin_cases a <;> rfl
theorem row_start1 (idx : IVec S5000x1 32) (n : Fin 5000) (j : Fin 6) : scRow.start (ix2 n j) idx 1 = 0 := by
  unfold ScatterDims.start
  rw [dif_neg (by decide)]
theorem row_window0 (n : Fin 5000) (j : Fin 6) : scRow.window (ix2 n j) 0 = 0 := by
  unfold ScatterDims.window
  rw [dif_neg (by decide)]
theorem row_window1 (n : Fin 5000) (j : Fin 6) : scRow.window (ix2 n j) 1 = j.val := by
  unfold ScatterDims.window
  rw [dif_pos (by decide)]
  rfl

/-- Where a row's update lands. -/
theorem row_lands (idx : IVec S5000x1 32) (n c : Fin 5000) (j k : Fin 6) :
    scRow.resultIdx? (ix2 n j) idx = some (ix2 c k) ↔ (idx (ix2 n 0)).toInt = (c.val : ℤ) ∧ j = k := by
  have h : scRow.resultIdx? (ix2 n j) idx = some (ix2 c k) ↔ scRow.start (ix2 n j) idx 0 + (scRow.window (ix2 n j) 0 : ℤ) = (c.val : ℤ)
      ∧ scRow.start (ix2 n j) idx 1 + (scRow.window (ix2 n j) 1 : ℤ) = (k.val : ℤ) := Routing.resultIdx?_ix2 scRow (ix2 n j) idx c k
  rw [h, row_start0, row_start1, row_window0, row_window1]
  refine and_congr (by simp) ?_
  rw [Fin.ext_iff]
  omega

/-- The sum of rows over one cluster. -/
theorem scatter_rows (idx : IVec S5000x1 32) (x u : FVec Ideal S5000x6 .f32) (cn : Fin 5000 → ℕ)
    (hi : ∀ n : Fin 5000, (idx (ix2 n 0)).toInt = ((cn n - 1 : ℕ) : ℤ)) (h1 : ∀ n, 1 ≤ cn n) (c : Fin 5000) (k : Fin 6) (hx : x (ix2 c k) = 0) :
    Ideal.hostScatterAdd scRow x idx u (ix2 c k) = total cn (fun n => u (ix2 n k)) c.val := by
  unfold Ideal.hostScatterAdd total
  rw [hx, zero_add, Finset.sum_filter]
  let e : Fin 5000 × Fin 6 ≃ S5000x6.Idx := ⟨fun p => ix2 p.1 p.2, fun j => (j 0, j 1), fun _ => rfl, fun j => by funext a; fin_cases a <;> rfl⟩
  rw [← Equiv.sum_comp e, Fintype.sum_prod_type]
  refine Finset.sum_congr rfl fun n _ => ?_
  have := h1 n
  have hl : ∀ j : Fin 6, (scRow.resultIdx? (ix2 n j) idx = some (ix2 c k) ↔ cn n = c.val + 1 ∧ j = k) := fun j => by
    rw [row_lands, hi n]
    refine and_congr ⟨fun h => by omega, fun h => by omega⟩ Iff.rfl
  show (∑ j : Fin 6, if scRow.resultIdx? (ix2 n j) idx = some (ix2 c k) then u (ix2 n j) else 0) = _
  by_cases h : cn n = c.val + 1
  · rw [if_pos h, Finset.sum_eq_single k (fun j _ hj => if_neg fun hh => hj ((hl j).mp hh).2) (fun hk => absurd (Finset.mem_univ k) hk), if_pos ((hl k).mpr ⟨h, rfl⟩)]
  · rw [if_neg h]
    exact Finset.sum_eq_zero fun j _ => if_neg fun hh => h ((hl j).mp hh).1

/-- The sum over the updates of one cluster. -/
theorem scatter_total (idx : IVec S5000x1 32) (x u : FVec Ideal S5000 .f32) (cn : Fin 5000 → ℕ)
    (hi : ∀ n : Fin 5000, (idx (ix2 n 0)).toInt = ((cn n - 1 : ℕ) : ℤ)) (h1 : ∀ n, 1 ≤ cn n) (c : Fin 5000) (hx : x (ix1 c) = 0) :
    Ideal.hostScatterAdd scatter_S5000_S5000x1_S5000_n_0_0_1 x idx u (ix1 c) = total cn (fun n => u (ix1 n)) c.val := by
  unfold Ideal.hostScatterAdd total
  rw [hx, zero_add, Finset.sum_filter]
  let e : Fin 5000 ≃ S5000.Idx := ⟨fun n => ix1 n, fun j => j 0, fun _ => rfl, fun j => by funext a; obtain rfl : a = 0 := Subsingleton.elim _ _; rfl⟩
  rw [← Equiv.sum_comp e]
  refine Finset.sum_congr rfl fun n _ => ?_
  show (if scatter_S5000_S5000x1_S5000_n_0_0_1.resultIdx? (ix1 n) idx = some (ix1 c) then u (ix1 n) else 0) = _
  have hl : scatter_S5000_S5000x1_S5000_n_0_0_1.resultIdx? (ix1 n) idx = some (ix1 c) ↔ (idx (ix2 n 0)).toInt = (c.val : ℤ) :=
    Routing.scatter_lands_signed (N := 5000) scatter_S5000_S5000x1_S5000_n_0_0_1 rfl rfl rfl idx n c
  rw [hi n] at hl
  have := h1 n
  exact if_congr ⟨fun h => by have := hl.mp h; omega, fun h => hl.mpr (by omega)⟩ rfl rfl

/-- The index of each box's cluster. -/
abbrev seg (ci : IVec S5000 32) : IVec S5000 32 := subi ci (broadcastInDim S5000 ![] bcast_S_S5000 (constantI S_ 32 1#32))
abbrev asRow (v : IVec S5000 32) : IVec S5000x1 32 := broadcastInDim S5000x1 ![0] bcast_S5000_S5000x1_0 v
abbrev wrapped (v : IVec S5000 32) : IVec S5000 32 :=
  select (cmpi .slt v (broadcastInDim S5000 ![] bcast_S_S5000 (constantI S_ 32 0#32))) (addi v (broadcastInDim S5000 ![] bcast_S_S5000 (constantI S_ 32 5000#32))) v
/-- The sum of the scores of each box's cluster. -/
abbrev sums (ci : IVec S5000 32) (s : FVec Ideal S5000 .f32) : FVec Ideal S5000 .f32 :=
  Host.gather gather_S5000_S5000x1_S5000_n_0_n_n_0_1_1
    (Host.scatterAdd scatter_S5000_S5000x1_S5000_n_0_0_1 (broadcastInDim S5000 ![] bcast_S_S5000 (constant S_ .f32 0x00000000#32)) (asRow (seg ci)) s) (asRow (wrapped (seg ci)))

variable (ci : IVec S5000 32) (cn : Fin 5000 → ℕ) (hc : ∀ n : Fin 5000, ci (ix1 n) = BitVec.ofNat 32 (cn n))
  (h1 : ∀ n, 1 ≤ cn n ∧ cn n ≤ 5000)
include hc h1

theorem seg_val (n : Fin 5000) : seg ci (ix1 n) = BitVec.ofNat 32 (cn n - 1) := by
  show ci (ix1 n) - 1#32 = _
  rw [hc, sub_one _ (h1 n).1]

theorem seg_row (n : Fin 5000) : (asRow (seg ci) (ix2 n 0)).toInt = ((cn n - 1 : ℕ) : ℤ) := by
  have h := seg_val ci cn hc h1 n
  generalize seg ci = v at h ⊢
  have e : asRow v (ix2 n 0) = v (ix1 n) := by pointwise
  rw [e, h, toInt_small _ (by have := h1 n; omega)]

theorem wrapped_row (n : Fin 5000) : asRow (wrapped (seg ci)) (ix2 n 0) = BitVec.ofNat 32 (cn n - 1) := by
  have h := seg_val ci cn hc h1 n
  generalize seg ci = v at h ⊢
  have e : asRow (wrapped v) (ix2 n 0) = Scalar.select (IntOp.cmpi .slt (v (ix1 n)) 0#32) (IntOp.addi (v (ix1 n)) 5000#32) (v (ix1 n)) := by pointwise
  rw [e, Routing.wrap_of_lt, h]
  rw [h, BitVec.toNat_ofNat]
  have := h1 n
  omega

theorem sums_at (s : FVec Ideal S5000 .f32) (n : Fin 5000) : (sums ci s (ix1 n) : EReal) = total cn (fun n => s (ix1 n)) (cn n - 1) := by
  have hn := h1 n
  have h := wrapped_row ci cn hc h1 n
  have hr := seg_row ci cn hc h1
  unfold sums
  generalize asRow (wrapped (seg ci)) = w at h ⊢
  generalize asRow (seg ci) = r at hr ⊢
  have hg : ∀ x : FVec Ideal S5000 .f32, Host.gather gather_S5000_S5000x1_S5000_n_0_n_n_0_1_1 x w (ix1 n) = x (ix1 ⟨cn n - 1, by omega⟩) := fun x =>
    Routing.gather_take1 (N := 5000) (n := 5000) gather_S5000_S5000x1_S5000_n_0_n_n_0_1_1 rfl rfl rfl rfl x w n ⟨cn n - 1, by omega⟩ h (by decide)
  rw [hg]
  exact scatter_total r _ s cn hr (fun n => (h1 n).1) ⟨cn n - 1, by omega⟩ (by pointwise)

variable (V0 : Valuation τ sig (Elt Ideal)) (h3 : V0 (Proc.devRef .tc main_v109_3) = ci)
include h3

theorem mean_at (A : FVec Ideal S5000x7 .f32) (hA : V0 (Proc.devRef .tc main_arg0) = A) (s : FVec Ideal S5000 .f32) (hs : V0 (Proc.devRef .tc main_arg1) = s)
    (rA : ∀ n k, ∃ r : ℝ, (A (ix2 n k) : EReal) = r) (h0 : ∀ n, (0 : EReal) ≤ s (ix1 n)) (c : Fin 5000) (k : Fin 6) :
    (out_main_v153 V0 (ix2 c k) : EReal) = mean cn (fun n => s (ix1 n)) (fun n => A (ix2 n ⟨k.val, by have := k.isLt; omega⟩)) c.val := by
  unfold out_main_v153
  rw [h3, hA, hs]
  generalize hu : (mulf _ _ : FVec Ideal S5000x6 .f32) = u
  generalize hi : broadcastInDim S5000x1 ![0] bcast_S5000_S5000x1_0 (subi ci _) = i
  have hir : ∀ n : Fin 5000, (i (ix2 n 0)).toInt = ((cn n - 1 : ℕ) : ℤ) := fun n => by rw [← hi]; exact seg_row ci cn hc h1 n
  have hun : ∀ n : Fin 5000, (u (ix2 n k) : EReal) = A (ix2 n ⟨k.val, by have := k.isLt; omega⟩) * Ideal.div (s (ix1 n)) (max (total cn (fun n => s (ix1 n)) (cn n - 1)) tiny) := fun n => by
    rw [← sums_at ci cn hc h1 s n, ← hu]
    generalize hg : (Host.gather _ _ _ : FVec Ideal S5000 .f32) = g
    have e : sums ci s = g := hg
    rw [e]
    pointwise
  pointwise
  have hm : ∀ n : Fin 5000, IntOp.cmpi CmpIPredicate.eq (IntOp.subi (ci (ix1 n)) 1#32) (BitVec.ofNat 32 c.val)
      = BitVec.ofBool (decide (cn n = c.val + 1)) := by
    intro n
    show BitVec.ofBool (ci (ix1 n) - 1#32 == _) = _
    rw [hc, sub_one _ (h1 n).1]
    congr 1
    rw [Bool.eq_iff_iff, beq_iff_eq, decide_eq_true_iff, ofNat_iff _ _ (by have := h1 n; omega) (by have := c.isLt; omega)]
    have := h1 n
    omega
  simp only [hm]
  have hor := Routing.fold_ori (s := Finset.univ) (p := fun n : Fin 5000 => BitVec.ofBool (decide (cn n = c.val + 1)))
  by_cases hh : ∃ n, cn n = c.val + 1
  · rw [hor.mpr (by obtain ⟨n, e⟩ := hh; exact ⟨n, Finset.mem_univ n, by simp [e]⟩)]
    refine (if_pos rfl).trans ?_
    refine (scatter_rows i _ u cn hir (fun n => (h1 n).1) c k (by pointwise)).trans ?_
    rw [funext hun]
    exact mean_shares cn c.val (fun n => s (ix1 n)) _ h0 (fun n => rA n _) _ (fun n e => by rw [e]; rfl) hh
  · rw [mean_none _ _ _ _ hh]
    refine (if_neg fun h => hh ?_)
    obtain ⟨n, _, e⟩ := hor.mp h
    refine ⟨n, ?_⟩
    by_contra hne
    simp [hne] at e

omit hc h1 h3 in
theorem dims_at (m : (ℓ : Loc nD τ sig) → Buf (Elt Ideal) ℓ) (c : Dev nD) (hA : Good (rows (boxes m c)))
    (rA : ∀ n k, ∃ r : ℝ, (boxes m c (ix2 n k) : EReal) = r) (h0 : ∀ n, (0 : EReal) ≤ scores m c (ix1 n)) (i : Fin 5000) (k : Fin 6) :
    (out_main_v153 (STEP^[5000] (StableHlo.entryContents preI m c)) (ix2 i k) : EReal)
      = mean (clusters m c) (fun n => scores m c (ix1 n)) (fun n => boxes m c (ix2 n ⟨k.val, by have := k.isLt; omega⟩)) i.val := by
  obtain ⟨ci, h3, hci⟩ := ((entry_has m c).iter 5000 (le_refl _)).ci
  exact mean_at ci (clusters m c) hci (clusters_range m c hA) _ h3 _ (iter_main_arg0 m c 5000) _ (iter_main_arg1 m c 5000) rA h0 i k

end Cert.Proof.R
-- ==== Proof.Values.lean ====
/- Both programs end with the same results: of every cluster of the greedy clustering, the weighted means of the box columns, the greatest score and the
   number of boxes. -/
module

public import proofs.«01_k».proof.Defs
public import proofs.«01_k».proof.Proof.K.Out
public import proofs.«01_k».proof.Proof.K.Tail
public import proofs.«01_k».proof.Proof.R.Mean

@[expose] public section

noncomputable section

namespace Cert.Proof

open Idealize.ShloMosaic Idealize.ShloMosaic.TcCoe Idealize.ShloMosaic.Tactic Idealize.SL.Sem Cert.KernelIdeal Cert.KernelIdeal.Gen Cert.Proof.M

theorem ix1_eta (y : S5000.Idx) : ∃ i : Fin 5000, y = ix1 i := ⟨y 0, by
  funext a; obtain rfl : a = 0 := Subsingleton.elim _ _; rfl⟩

theorem ix2_eta (y : S5000x6.Idx) : ∃ (i : Fin 5000) (k : Fin 6), y = ix2 i k := ⟨y 0, y 1, by funext a; fin_cases a <;> rfl⟩

/-- The clusters of the boxes `A`. -/
def clusters (A : FVec Ideal S5000x7 .f32) : Fin 5000 → ℕ := (greedy (geo (K.rows A)).hit 5000).1
/-- The fused boxes without their headings. -/
def dims (A : FVec Ideal S5000x7 .f32) (s : FVec Ideal S5000 .f32) : FVec Ideal S5000x6 .f32 := fun y =>
  mean (clusters A) (fun n => s (ix1 n)) (fun n => A (ix2 n ⟨(y 1).val, lt_trans (y 1).isLt (by decide)⟩)) (y 0).val
/-- The fused scores. -/
def top (A : FVec Ideal S5000x7 .f32) (s : FVec Ideal S5000 .f32) : FVec Ideal S5000 .f32 := fun y => best (clusters A) (fun n => s (ix1 n)) (y 0).val
/-- The clusters' sizes. -/
def size (A : FVec Ideal S5000x7 .f32) : FVec Ideal S5000 .f32 := fun y => cnt (clusters A) (y 0).val

section
variable (m : (ℓ : Loc nD τ sig) → Buf (Elt Ideal) ℓ) (c : Dev nD) (hA : Good (K.rows (K.boxes m c))) (hs : ∀ i : Fin 5000, 0 ≤ K.scores m c (ix1 i))
include hA hs

theorem kernel_dims : K.six (K.finalOut m c) = dims (K.boxes m c) (K.scores m c) := by
  funext y
  obtain ⟨i, k, rfl⟩ := ix2_eta y
  exact (K.six_at _ i k).trans (K.out_mean m c hA hs _ k)

theorem kernel_top : K.lane (K.finalOut m c) 7 slices_S5120x16_S5000x1_0_7 = top (K.boxes m c) (K.scores m c) := by
  funext y
  obtain ⟨i, rfl⟩ := ix1_eta y
  exact (K.lane_at _ 7 (by decide) _ i).trans (K.out_7 m c hA hs _)

theorem kernel_size : K.lane (K.finalOut m c) 8 slices_S5120x16_S5000x1_0_8 = size (K.boxes m c) := by
  funext y
  obtain ⟨i, rfl⟩ := ix1_eta y
  exact (K.lane_at _ 8 (by decide) _ i).trans (K.out_8 m c hA hs _)
end

section
variable (m : (ℓ : Loc Cert.ReferenceIdeal.nD Cert.ReferenceIdeal.τ Cert.ReferenceIdeal.sig) → Buf (Elt Ideal) ℓ) (c : Dev Cert.ReferenceIdeal.nD)
  (A : FVec Ideal S5000x7 .f32) (s : FVec Ideal S5000 .f32) (eA : R.boxes m c = A) (es : R.scores m c = s) (hA : Good (K.rows A))
include eA hA

theorem reference_size : Cert.ReferenceIdeal.Value.out_main_v115 (Cert.ReferenceIdeal.Value.STEP^[5000] (StableHlo.entryContents Cert.ReferenceIdeal.Value.preI m c)) = size A := by
  subst eA
  funext y
  obtain ⟨i, rfl⟩ := ix1_eta y
  exact R.counts_at m c hA i

include es in
theorem reference_top : Cert.ReferenceIdeal.Value.out_main_v149 (Cert.ReferenceIdeal.Value.STEP^[5000] (StableHlo.entryContents Cert.ReferenceIdeal.Value.preI m c)) = top A s := by
  subst eA es
  funext y
  obtain ⟨i, rfl⟩ := ix1_eta y
  exact R.scores_at m c hA i

include es in
theorem reference_dims (h0 : ∀ i : Fin 5000, 0 ≤ s (ix1 i)) :
    Cert.ReferenceIdeal.Value.out_main_v153 (Cert.ReferenceIdeal.Value.STEP^[5000] (StableHlo.entryContents Cert.ReferenceIdeal.Value.preI m c)) = dims A s := by
  subst eA es
  funext y
  obtain ⟨i, k, rfl⟩ := ix2_eta y
  exact R.dims_at m c hA (fun n k => hA.1 n k) h0 i k
end

theorem values [hP : Cert.Pre_in_range.Facts] : Cert.algebraic_KernelIdeal_ReferenceIdeal := fun m g m' g' hm he => by
  refine ⟨fun c => dims (K.boxes m c) (K.scores m c), fun c => top (K.boxes m c) (K.scores m c), fun c => size (K.boxes m c), ?_, ?_⟩
  · refine (θ_run defs _ _).mono (fun r h c => ?_) (K.run m g fun c => K.ends m c (K.of_pre _ _ (hm c)).1)
    obtain ⟨hA, hs⟩ := K.of_pre _ _ (hm c)
    refine ⟨?_, ?_, ?_, ((h.1 c).2 main_arg0 (Pipeline.mem_restRefs_of main_arg0 (by decide) (by decide))).trans (K.W_arg0 m (K.dats m) c),
      ((h.1 c).2 main_arg1 (Pipeline.mem_restRefs_of main_arg1 (by decide) (by decide))).trans (K.W_arg1 m (K.dats m) c)⟩
    · exact ((h.1 c).2 main_v0_0 (Pipeline.mem_restRefs_of main_v0_0 (by decide) (by decide))).trans ((K.tail_0 m c).trans (kernel_dims m c hA hs))
    · exact ((h.1 c).2 main_v0_1 (Pipeline.mem_restRefs_of main_v0_1 (by decide) (by decide))).trans ((K.tail_1 m c).trans (kernel_top m c hA hs))
    · exact ((h.1 c).2 main_v0_2 (Pipeline.mem_restRefs_of main_v0_2 (by decide) (by decide))).trans ((K.tail_2 m c).trans (kernel_size m c hA hs))
  · refine (θ_run Cert.ReferenceIdeal.defs _ _).mono (fun r h c => ?_) (Cert.ReferenceIdeal.Value.run (F := Ideal) m' g')
    obtain ⟨hA, hs⟩ := K.of_pre _ _ (hm c)
    obtain ⟨hd, h0, h1, h2, h3⟩ := h c
    exact ⟨hd.trans (reference_dims m' c _ _ (he c).1 (he c).2 hA hs), h0.trans (reference_top m' c _ _ (he c).1 (he c).2 hA),
      h1.trans (reference_size m' c _ (he c).1 hA), h2, h3⟩

end Cert.Proof

end
-- ==== Proof.lean ====
/- The claims, assembled. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.K.Ready
public import proofs.«01_k».proof.Proof.Values
public import Idealize.ShloMosaic.Adequacy
public import Idealize.ShloMosaic.Init

@[expose] public section

noncomputable section

namespace Cert.Proof

open Idealize.ShloMosaic Idealize.SL.Sem Cert.KernelIdeal

theorem frame_ri [hP : Cert.Pre_in_range.Facts] : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem claim : Cert.Claim := ⟨Cert.KernelIdeal.Gen.facts, Cert.ReferenceIdeal.Gen.facts, Cert.Pre_in_range.Gen.facts,
  K.frame_k, frame_ri, values⟩

end Cert.Proof

end
